-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 1024]⟩ ⟨2, ![512, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512x1024 : Shape := ⟨2, ![512, 1024]⟩
abbrev S1024x512 : Shape := ⟨2, ![1024, 512]⟩
abbrev S8x64x512 : Shape := ⟨3, ![8, 64, 512]⟩
abbrev S8 : Shape := ⟨1, ![8]⟩
abbrev S_ : Shape := ⟨0, ![]⟩
abbrev S64x512 : Shape := ⟨2, ![64, 512]⟩
abbrev S64x1024 : Shape := ⟨2, ![64, 1024]⟩
abbrev S1 : Shape := ⟨1, ![1]⟩
abbrev S1x64x512 : Shape := ⟨3, ![1, 64, 512]⟩

abbrev nBuf : Space → Nat
  | .hbm => 4
  | .vmem => 7
  | .smem => 0
  | _ => 0

abbrev bufTy : (tb : Table) → Fin (tcTables nBuf tb) → BufTy
  | .hbm, ⟨0, _⟩ => ⟨S512x512, .bf16⟩
  | .hbm, ⟨1, _⟩ => ⟨S512x1024, .bf16⟩
  | .hbm, ⟨2, _⟩ => ⟨S1024x512, .bf16⟩
  | .hbm, ⟨3, _⟩ => ⟨S512x512, .f32⟩
  | .local _ .vmem, ⟨0, _⟩ => ⟨S512x512, .bf16⟩
  | .local _ .vmem, ⟨1, _⟩ => ⟨S512x1024, .bf16⟩
  | .local _ .vmem, ⟨2, _⟩ => ⟨S1024x512, .bf16⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S8x64x512, .bf16⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .ne v2 c0_i32
  let v6 : BitVec 32 := Scalar.extui v5
  let c0_i32_0 : BitVec 32 := 0#32
  let v7 : BitVec 1 := Scalar.cmpi .ne v6 c0_i32_0
  v7

def k0_dev1 : Nat :=
  let c0_i32_280 : BitVec 32 := 0#32
  let c0_i32_278 : BitVec 32 := 0#32
  let c1_i32_279 : BitVec 32 := 1#32
  let v446 : BitVec 32 := Scalar.muli c0_i32_278 c1_i32_279
  let v447 : BitVec 32 := Scalar.addi c0_i32_280 v446
  v447.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v8 : BitVec 1 := Scalar.cmpi .ne v2 c1_i32_1
  let v9 : BitVec 32 := Scalar.extui v8
  let c0_i32_2 : BitVec 32 := 0#32
  let v10 : BitVec 1 := Scalar.cmpi .ne v9 c0_i32_2
  v10

def k0_dev2 : Nat :=
  let c0_i32_280 : BitVec 32 := 0#32
  let c1_i32_278 : BitVec 32 := 1#32
  let c1_i32_279 : BitVec 32 := 1#32
  let v446 : BitVec 32 := Scalar.muli c1_i32_278 c1_i32_279
  let v447 : BitVec 32 := Scalar.addi c0_i32_280 v446
  v447.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 1 := Scalar.cmpi .ne v2 c2_i32
  let v12 : BitVec 32 := Scalar.extui v11
  let c0_i32_3 : BitVec 32 := 0#32
  let v13 : BitVec 1 := Scalar.cmpi .ne v12 c0_i32_3
  v13

def k0_dev3 : Nat :=
  let c0_i32_280 : BitVec 32 := 0#32
  let c2_i32_278 : BitVec 32 := 2#32
  let c1_i32_279 : BitVec 32 := 1#32
  let v446 : BitVec 32 := Scalar.muli c2_i32_278 c1_i32_279
  let v447 : BitVec 32 := Scalar.addi c0_i32_280 v446
  v447.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v14 : BitVec 1 := Scalar.cmpi .ne v2 c3_i32
  let v15 : BitVec 32 := Scalar.extui v14
  let c0_i32_4 : BitVec 32 := 0#32
  let v16 : BitVec 1 := Scalar.cmpi .ne v15 c0_i32_4
  v16

def k0_dev4 : Nat :=
  let c0_i32_280 : BitVec 32 := 0#32
  let c3_i32_278 : BitVec 32 := 3#32
  let c1_i32_279 : BitVec 32 := 1#32
  let v446 : BitVec 32 := Scalar.muli c3_i32_278 c1_i32_279
  let v447 : BitVec 32 := Scalar.addi c0_i32_280 v446
  v447.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v17 : BitVec 1 := Scalar.cmpi .ne v2 c4_i32
  let v18 : BitVec 32 := Scalar.extui v17
  let c0_i32_5 : BitVec 32 := 0#32
  let v19 : BitVec 1 := Scalar.cmpi .ne v18 c0_i32_5
  v19

def k0_dev5 : Nat :=
  let c0_i32_280 : BitVec 32 := 0#32
  let c4_i32_278 : BitVec 32 := 4#32
  let c1_i32_279 : BitVec 32 := 1#32
  let v446 : BitVec 32 := Scalar.muli c4_i32_278 c1_i32_279
  let v447 : BitVec 32 := Scalar.addi c0_i32_280 v446
  v447.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 1 := Scalar.cmpi .ne v2 c5_i32
  let v21 : BitVec 32 := Scalar.extui v20
  let c0_i32_6 : BitVec 32 := 0#32
  let v22 : BitVec 1 := Scalar.cmpi .ne v21 c0_i32_6
  v22

def k0_dev6 : Nat :=
  let c0_i32_280 : BitVec 32 := 0#32
  let c5_i32_278 : BitVec 32 := 5#32
  let c1_i32_279 : BitVec 32 := 1#32
  let v446 : BitVec 32 := Scalar.muli c5_i32_278 c1_i32_279
  let v447 : BitVec 32 := Scalar.addi c0_i32_280 v446
  v447.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v23 : BitVec 1 := Scalar.cmpi .ne v2 c6_i32
  let v24 : BitVec 32 := Scalar.extui v23
  let c0_i32_7 : BitVec 32 := 0#32
  let v25 : BitVec 1 := Scalar.cmpi .ne v24 c0_i32_7
  v25

def k0_dev7 : Nat :=
  let c0_i32_280 : BitVec 32 := 0#32
  let c6_i32_278 : BitVec 32 := 6#32
  let c1_i32_279 : BitVec 32 := 1#32
  let v446 : BitVec 32 := Scalar.muli c6_i32_278 c1_i32_279
  let v447 : BitVec 32 := Scalar.addi c0_i32_280 v446
  v447.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v26 : BitVec 1 := Scalar.cmpi .ne v2 c7_i32
  let v27 : BitVec 32 := Scalar.extui v26
  let c0_i32_8 : BitVec 32 := 0#32
  let v28 : BitVec 1 := Scalar.cmpi .ne v27 c0_i32_8
  v28

def k0_dev8 : Nat :=
  let c0_i32_280 : BitVec 32 := 0#32
  let c7_i32_278 : BitVec 32 := 7#32
  let c1_i32_279 : BitVec 32 := 1#32
  let v446 : BitVec 32 := Scalar.muli c7_i32_278 c1_i32_279
  let v447 : BitVec 32 := Scalar.addi c0_i32_280 v446
  v447.toNat
def k0_off1 (d0 : Dev nD) (c0_i32_13 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_12 : BitVec 32 := 1#32
  let v33 : BitVec 32 := Scalar.addi v2 c1_i32_12
  let v34 : BitVec 32 := Scalar.addi v33 c0_i32_13
  let c8_i32_14 : BitVec 32 := 8#32
  let c0_i32_15 : BitVec 32 := 0#32
  let v35 : BitVec 1 := Scalar.cmpi .eq c8_i32_14 c0_i32_15
  let c1_i32_16 : BitVec 32 := 1#32
  let v36 : BitVec 32 := Scalar.select v35 c1_i32_16 c8_i32_14
  let v37 : BitVec 32 := Scalar.remsi v34 v36
  let c0_i32_18 : BitVec 32 := 0#32
  let v39 : BitVec 1 := Scalar.cmpi .slt v37 c0_i32_18
  let c0_i32_19 : BitVec 32 := 0#32
  let v40 : BitVec 1 := Scalar.cmpi .slt v36 c0_i32_19
  let v41 : BitVec 1 := Scalar.xori v39 v40
  let c0_i32_17 : BitVec 32 := 0#32
  let v38 : BitVec 1 := Scalar.cmpi .ne v37 c0_i32_17
  let v42 : BitVec 1 := Scalar.andi v41 v38
  let v43 : BitVec 32 := Scalar.addi v37 v36
  let v44 : BitVec 32 := Scalar.select v42 v43 v37
  let c64_i32_20 : BitVec 32 := 64#32
  let v45 : BitVec 32 := Scalar.muli v44 c64_i32_20
  let v46 : Index := Scalar.indexCast v45
  let c0_21 : Index := 0#32
  ![v46.toNat, 0]
def k0_off2 (d0 : Dev nD) (c0_i32_13 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_12 : BitVec 32 := 1#32
  let v33 : BitVec 32 := Scalar.addi v2 c1_i32_12
  let v34 : BitVec 32 := Scalar.addi v33 c0_i32_13
  let c8_i32_14 : BitVec 32 := 8#32
  let c0_i32_15 : BitVec 32 := 0#32
  let v35 : BitVec 1 := Scalar.cmpi .eq c8_i32_14 c0_i32_15
  let c1_i32_16 : BitVec 32 := 1#32
  let v36 : BitVec 32 := Scalar.select v35 c1_i32_16 c8_i32_14
  let v37 : BitVec 32 := Scalar.remsi v34 v36
  let c0_i32_18 : BitVec 32 := 0#32
  let v39 : BitVec 1 := Scalar.cmpi .slt v37 c0_i32_18
  let c0_i32_19 : BitVec 32 := 0#32
  let v40 : BitVec 1 := Scalar.cmpi .slt v36 c0_i32_19
  let v41 : BitVec 1 := Scalar.xori v39 v40
  let c0_i32_17 : BitVec 32 := 0#32
  let v38 : BitVec 1 := Scalar.cmpi .ne v37 c0_i32_17
  let v42 : BitVec 1 := Scalar.andi v41 v38
  let v43 : BitVec 32 := Scalar.addi v37 v36
  let v44 : BitVec 32 := Scalar.select v42 v43 v37
  ![v44.toNat]
def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_28 : BitVec 32 := 0#32
  let c0_i32_29 : BitVec 32 := 0#32
  ![v2.toNat, 0, 0]
def k0_off5 (d0 : Dev nD) (c0_i32_13 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_12 : BitVec 32 := 1#32
  let v33 : BitVec 32 := Scalar.addi v2 c1_i32_12
  let v34 : BitVec 32 := Scalar.addi v33 c0_i32_13
  let c8_i32_14 : BitVec 32 := 8#32
  let c0_i32_15 : BitVec 32 := 0#32
  let v35 : BitVec 1 := Scalar.cmpi .eq c8_i32_14 c0_i32_15
  let c1_i32_16 : BitVec 32 := 1#32
  let v36 : BitVec 32 := Scalar.select v35 c1_i32_16 c8_i32_14
  let v37 : BitVec 32 := Scalar.remsi v34 v36
  let c0_i32_18 : BitVec 32 := 0#32
  let v39 : BitVec 1 := Scalar.cmpi .slt v37 c0_i32_18
  let c0_i32_19 : BitVec 32 := 0#32
  let v40 : BitVec 1 := Scalar.cmpi .slt v36 c0_i32_19
  let v41 : BitVec 1 := Scalar.xori v39 v40
  let c0_i32_17 : BitVec 32 := 0#32
  let v38 : BitVec 1 := Scalar.cmpi .ne v37 c0_i32_17
  let v42 : BitVec 1 := Scalar.andi v41 v38
  let v43 : BitVec 32 := Scalar.addi v37 v36
  let v44 : BitVec 32 := Scalar.select v42 v43 v37
  let c64_i32_20 : BitVec 32 := 64#32
  let v45 : BitVec 32 := Scalar.muli v44 c64_i32_20
  let c0_i32_30 : BitVec 32 := 0#32
  ![v45.toNat, 0]
def k0_dev9 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_12 : BitVec 32 := 1#32
  let v33 : BitVec 32 := Scalar.addi v2 c1_i32_12
  let c0_i32_13 : BitVec 32 := 0#32
  let v34 : BitVec 32 := Scalar.addi v33 c0_i32_13
  let c8_i32_14 : BitVec 32 := 8#32
  let c0_i32_15 : BitVec 32 := 0#32
  let v35 : BitVec 1 := Scalar.cmpi .eq c8_i32_14 c0_i32_15
  let c1_i32_16 : BitVec 32 := 1#32
  let v36 : BitVec 32 := Scalar.select v35 c1_i32_16 c8_i32_14
  let v37 : BitVec 32 := Scalar.remsi v34 v36
  let c0_i32_18 : BitVec 32 := 0#32
  let v39 : BitVec 1 := Scalar.cmpi .slt v37 c0_i32_18
  let c0_i32_19 : BitVec 32 := 0#32
  let v40 : BitVec 1 := Scalar.cmpi .slt v36 c0_i32_19
  let v41 : BitVec 1 := Scalar.xori v39 v40
  let c0_i32_17 : BitVec 32 := 0#32
  let v38 : BitVec 1 := Scalar.cmpi .ne v37 c0_i32_17
  let v42 : BitVec 1 := Scalar.andi v41 v38
  let v43 : BitVec 32 := Scalar.addi v37 v36
  let v44 : BitVec 32 := Scalar.select v42 v43 v37
  let c1_i32_26 : BitVec 32 := 1#32
  let v59 : BitVec 32 := Scalar.muli v44 c1_i32_26
  let v60 : BitVec 32 := Scalar.addi c0_i32_27 v59
  v60.toNat
def k0_dev10 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_31 : BitVec 32 := 1#32
  let v68 : BitVec 32 := Scalar.addi v2 c1_i32_31
  let c1_i32_32 : BitVec 32 := 1#32
  let v69 : BitVec 32 := Scalar.addi v68 c1_i32_32
  let c8_i32_33 : BitVec 32 := 8#32
  let c0_i32_34 : BitVec 32 := 0#32
  let v70 : BitVec 1 := Scalar.cmpi .eq c8_i32_33 c0_i32_34
  let c1_i32_35 : BitVec 32 := 1#32
  let v71 : BitVec 32 := Scalar.select v70 c1_i32_35 c8_i32_33
  let v72 : BitVec 32 := Scalar.remsi v69 v71
  let c0_i32_37 : BitVec 32 := 0#32
  let v74 : BitVec 1 := Scalar.cmpi .slt v72 c0_i32_37
  let c0_i32_38 : BitVec 32 := 0#32
  let v75 : BitVec 1 := Scalar.cmpi .slt v71 c0_i32_38
  let v76 : BitVec 1 := Scalar.xori v74 v75
  let c0_i32_36 : BitVec 32 := 0#32
  let v73 : BitVec 1 := Scalar.cmpi .ne v72 c0_i32_36
  let v77 : BitVec 1 := Scalar.andi v76 v73
  let v78 : BitVec 32 := Scalar.addi v72 v71
  let v79 : BitVec 32 := Scalar.select v77 v78 v72
  let c1_i32_45 : BitVec 32 := 1#32
  let v94 : BitVec 32 := Scalar.muli v79 c1_i32_45
  let v95 : BitVec 32 := Scalar.addi c0_i32_46 v94
  v95.toNat
def k0_dev11 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_50 : BitVec 32 := 1#32
  let v103 : BitVec 32 := Scalar.addi v2 c1_i32_50
  let c2_i32_51 : BitVec 32 := 2#32
  let v104 : BitVec 32 := Scalar.addi v103 c2_i32_51
  let c8_i32_52 : BitVec 32 := 8#32
  let c0_i32_53 : BitVec 32 := 0#32
  let v105 : BitVec 1 := Scalar.cmpi .eq c8_i32_52 c0_i32_53
  let c1_i32_54 : BitVec 32 := 1#32
  let v106 : BitVec 32 := Scalar.select v105 c1_i32_54 c8_i32_52
  let v107 : BitVec 32 := Scalar.remsi v104 v106
  let c0_i32_56 : BitVec 32 := 0#32
  let v109 : BitVec 1 := Scalar.cmpi .slt v107 c0_i32_56
  let c0_i32_57 : BitVec 32 := 0#32
  let v110 : BitVec 1 := Scalar.cmpi .slt v106 c0_i32_57
  let v111 : BitVec 1 := Scalar.xori v109 v110
  let c0_i32_55 : BitVec 32 := 0#32
  let v108 : BitVec 1 := Scalar.cmpi .ne v107 c0_i32_55
  let v112 : BitVec 1 := Scalar.andi v111 v108
  let v113 : BitVec 32 := Scalar.addi v107 v106
  let v114 : BitVec 32 := Scalar.select v112 v113 v107
  let c1_i32_64 : BitVec 32 := 1#32
  let v129 : BitVec 32 := Scalar.muli v114 c1_i32_64
  let v130 : BitVec 32 := Scalar.addi c0_i32_65 v129
  v130.toNat
def k0_dev12 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_69 : BitVec 32 := 1#32
  let v138 : BitVec 32 := Scalar.addi v2 c1_i32_69
  let c3_i32_70 : BitVec 32 := 3#32
  let v139 : BitVec 32 := Scalar.addi v138 c3_i32_70
  let c8_i32_71 : BitVec 32 := 8#32
  let c0_i32_72 : BitVec 32 := 0#32
  let v140 : BitVec 1 := Scalar.cmpi .eq c8_i32_71 c0_i32_72
  let c1_i32_73 : BitVec 32 := 1#32
  let v141 : BitVec 32 := Scalar.select v140 c1_i32_73 c8_i32_71
  let v142 : BitVec 32 := Scalar.remsi v139 v141
  let c0_i32_75 : BitVec 32 := 0#32
  let v144 : BitVec 1 := Scalar.cmpi .slt v142 c0_i32_75
  let c0_i32_76 : BitVec 32 := 0#32
  let v145 : BitVec 1 := Scalar.cmpi .slt v141 c0_i32_76
  let v146 : BitVec 1 := Scalar.xori v144 v145
  let c0_i32_74 : BitVec 32 := 0#32
  let v143 : BitVec 1 := Scalar.cmpi .ne v142 c0_i32_74
  let v147 : BitVec 1 := Scalar.andi v146 v143
  let v148 : BitVec 32 := Scalar.addi v142 v141
  let v149 : BitVec 32 := Scalar.select v147 v148 v142
  let c1_i32_83 : BitVec 32 := 1#32
  let v164 : BitVec 32 := Scalar.muli v149 c1_i32_83
  let v165 : BitVec 32 := Scalar.addi c0_i32_84 v164
  v165.toNat
def k0_dev13 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_88 : BitVec 32 := 1#32
  let v173 : BitVec 32 := Scalar.addi v2 c1_i32_88
  let c4_i32_89 : BitVec 32 := 4#32
  let v174 : BitVec 32 := Scalar.addi v173 c4_i32_89
  let c8_i32_90 : BitVec 32 := 8#32
  let c0_i32_91 : BitVec 32 := 0#32
  let v175 : BitVec 1 := Scalar.cmpi .eq c8_i32_90 c0_i32_91
  let c1_i32_92 : BitVec 32 := 1#32
  let v176 : BitVec 32 := Scalar.select v175 c1_i32_92 c8_i32_90
  let v177 : BitVec 32 := Scalar.remsi v174 v176
  let c0_i32_94 : BitVec 32 := 0#32
  let v179 : BitVec 1 := Scalar.cmpi .slt v177 c0_i32_94
  let c0_i32_95 : BitVec 32 := 0#32
  let v180 : BitVec 1 := Scalar.cmpi .slt v176 c0_i32_95
  let v181 : BitVec 1 := Scalar.xori v179 v180
  let c0_i32_93 : BitVec 32 := 0#32
  let v178 : BitVec 1 := Scalar.cmpi .ne v177 c0_i32_93
  let v182 : BitVec 1 := Scalar.andi v181 v178
  let v183 : BitVec 32 := Scalar.addi v177 v176
  let v184 : BitVec 32 := Scalar.select v182 v183 v177
  let c1_i32_102 : BitVec 32 := 1#32
  let v199 : BitVec 32 := Scalar.muli v184 c1_i32_102
  let v200 : BitVec 32 := Scalar.addi c0_i32_103 v199
  v200.toNat
def k0_dev14 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_107 : BitVec 32 := 1#32
  let v208 : BitVec 32 := Scalar.addi v2 c1_i32_107
  let c5_i32_108 : BitVec 32 := 5#32
  let v209 : BitVec 32 := Scalar.addi v208 c5_i32_108
  let c8_i32_109 : BitVec 32 := 8#32
  let c0_i32_110 : BitVec 32 := 0#32
  let v210 : BitVec 1 := Scalar.cmpi .eq c8_i32_109 c0_i32_110
  let c1_i32_111 : BitVec 32 := 1#32
  let v211 : BitVec 32 := Scalar.select v210 c1_i32_111 c8_i32_109
  let v212 : BitVec 32 := Scalar.remsi v209 v211
  let c0_i32_113 : BitVec 32 := 0#32
  let v214 : BitVec 1 := Scalar.cmpi .slt v212 c0_i32_113
  let c0_i32_114 : BitVec 32 := 0#32
  let v215 : BitVec 1 := Scalar.cmpi .slt v211 c0_i32_114
  let v216 : BitVec 1 := Scalar.xori v214 v215
  let c0_i32_112 : BitVec 32 := 0#32
  let v213 : BitVec 1 := Scalar.cmpi .ne v212 c0_i32_112
  let v217 : BitVec 1 := Scalar.andi v216 v213
  let v218 : BitVec 32 := Scalar.addi v212 v211
  let v219 : BitVec 32 := Scalar.select v217 v218 v212
  let c1_i32_121 : BitVec 32 := 1#32
  let v234 : BitVec 32 := Scalar.muli v219 c1_i32_121
  let v235 : BitVec 32 := Scalar.addi c0_i32_122 v234
  v235.toNat
def k0_dev15 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_126 : BitVec 32 := 1#32
  let v243 : BitVec 32 := Scalar.addi v2 c1_i32_126
  let c6_i32_127 : BitVec 32 := 6#32
  let v244 : BitVec 32 := Scalar.addi v243 c6_i32_127
  let c8_i32_128 : BitVec 32 := 8#32
  let c0_i32_129 : BitVec 32 := 0#32
  let v245 : BitVec 1 := Scalar.cmpi .eq c8_i32_128 c0_i32_129
  let c1_i32_130 : BitVec 32 := 1#32
  let v246 : BitVec 32 := Scalar.select v245 c1_i32_130 c8_i32_128
  let v247 : BitVec 32 := Scalar.remsi v244 v246
  let c0_i32_132 : BitVec 32 := 0#32
  let v249 : BitVec 1 := Scalar.cmpi .slt v247 c0_i32_132
  let c0_i32_133 : BitVec 32 := 0#32
  let v250 : BitVec 1 := Scalar.cmpi .slt v246 c0_i32_133
  let v251 : BitVec 1 := Scalar.xori v249 v250
  let c0_i32_131 : BitVec 32 := 0#32
  let v248 : BitVec 1 := Scalar.cmpi .ne v247 c0_i32_131
  let v252 : BitVec 1 := Scalar.andi v251 v248
  let v253 : BitVec 32 := Scalar.addi v247 v246
  let v254 : BitVec 32 := Scalar.select v252 v253 v247
  let c1_i32_140 : BitVec 32 := 1#32
  let v269 : BitVec 32 := Scalar.muli v254 c1_i32_140
  let v270 : BitVec 32 := Scalar.addi c0_i32_141 v269
  v270.toNat
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v300 : Index := Scalar.indexCast v2
  let c0_158 : Index := 0#32
  let c0_159 : Index := 0#32
  ![v300.toNat, 0, 0]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v3 : BitVec 32 := Scalar.muli v2 c64_i32
  let v332 : Index := Scalar.indexCast v3
  let c0_180 : Index := 0#32
  ![v332.toNat, 0]
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_181 : BitVec 32 := 0#32
  let v336 : BitVec 1 := Scalar.cmpi .ne v2 c0_i32_181
  let v337 : BitVec 32 := Scalar.extui v336
  let c0_i32_183 : BitVec 32 := 0#32
  let v338 : BitVec 1 := Scalar.cmpi .ne v337 c0_i32_183
  v338

def k0_off8 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v3 : BitVec 32 := Scalar.muli v2 c64_i32
  let c0_i32_280 : BitVec 32 := 0#32
  ![v3.toNat, 0]
def k0_dev16 : Nat :=
  let c0_i32_279 : BitVec 32 := 0#32
  let c0_i32_277 : BitVec 32 := 0#32
  let c1_i32_278 : BitVec 32 := 1#32
  let v446 : BitVec 32 := Scalar.muli c0_i32_277 c1_i32_278
  let v447 : BitVec 32 := Scalar.addi c0_i32_279 v446
  v447.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_184 : BitVec 32 := 1#32
  let v339 : BitVec 1 := Scalar.cmpi .ne v2 c1_i32_184
  let v340 : BitVec 32 := Scalar.extui v339
  let c0_i32_186 : BitVec 32 := 0#32
  let v341 : BitVec 1 := Scalar.cmpi .ne v340 c0_i32_186
  v341

def k0_off10 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v3 : BitVec 32 := Scalar.muli v2 c64_i32
  let c0_i32_280 : BitVec 32 := 0#32
  ![v3.toNat, 0]
def k0_dev17 : Nat :=
  let c0_i32_279 : BitVec 32 := 0#32
  let c1_i32_277 : BitVec 32 := 1#32
  let c1_i32_278 : BitVec 32 := 1#32
  let v446 : BitVec 32 := Scalar.muli c1_i32_277 c1_i32_278
  let v447 : BitVec 32 := Scalar.addi c0_i32_279 v446
  v447.toNat
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_187 : BitVec 32 := 2#32
  let v342 : BitVec 1 := Scalar.cmpi .ne v2 c2_i32_187
  let v343 : BitVec 32 := Scalar.extui v342
  let c0_i32_189 : BitVec 32 := 0#32
  let v344 : BitVec 1 := Scalar.cmpi .ne v343 c0_i32_189
  v344

def k0_off12 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v3 : BitVec 32 := Scalar.muli v2 c64_i32
  let c0_i32_280 : BitVec 32 := 0#32
  ![v3.toNat, 0]
def k0_dev18 : Nat :=
  let c0_i32_279 : BitVec 32 := 0#32
  let c2_i32_277 : BitVec 32 := 2#32
  let c1_i32_278 : BitVec 32 := 1#32
  let v446 : BitVec 32 := Scalar.muli c2_i32_277 c1_i32_278
  let v447 : BitVec 32 := Scalar.addi c0_i32_279 v446
  v447.toNat
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_190 : BitVec 32 := 3#32
  let v345 : BitVec 1 := Scalar.cmpi .ne v2 c3_i32_190
  let v346 : BitVec 32 := Scalar.extui v345
  let c0_i32_192 : BitVec 32 := 0#32
  let v347 : BitVec 1 := Scalar.cmpi .ne v346 c0_i32_192
  v347

def k0_off14 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v3 : BitVec 32 := Scalar.muli v2 c64_i32
  let c0_i32_280 : BitVec 32 := 0#32
  ![v3.toNat, 0]
def k0_dev19 : Nat :=
  let c0_i32_279 : BitVec 32 := 0#32
  let c3_i32_277 : BitVec 32 := 3#32
  let c1_i32_278 : BitVec 32 := 1#32
  let v446 : BitVec 32 := Scalar.muli c3_i32_277 c1_i32_278
  let v447 : BitVec 32 := Scalar.addi c0_i32_279 v446
  v447.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_193 : BitVec 32 := 4#32
  let v348 : BitVec 1 := Scalar.cmpi .ne v2 c4_i32_193
  let v349 : BitVec 32 := Scalar.extui v348
  let c0_i32_195 : BitVec 32 := 0#32
  let v350 : BitVec 1 := Scalar.cmpi .ne v349 c0_i32_195
  v350

def k0_off16 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v3 : BitVec 32 := Scalar.muli v2 c64_i32
  let c0_i32_280 : BitVec 32 := 0#32
  ![v3.toNat, 0]
def k0_dev20 : Nat :=
  let c0_i32_279 : BitVec 32 := 0#32
  let c4_i32_277 : BitVec 32 := 4#32
  let c1_i32_278 : BitVec 32 := 1#32
  let v446 : BitVec 32 := Scalar.muli c4_i32_277 c1_i32_278
  let v447 : BitVec 32 := Scalar.addi c0_i32_279 v446
  v447.toNat
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_196 : BitVec 32 := 5#32
  let v351 : BitVec 1 := Scalar.cmpi .ne v2 c5_i32_196
  let v352 : BitVec 32 := Scalar.extui v351
  let c0_i32_198 : BitVec 32 := 0#32
  let v353 : BitVec 1 := Scalar.cmpi .ne v352 c0_i32_198
  v353

def k0_off18 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v3 : BitVec 32 := Scalar.muli v2 c64_i32
  let c0_i32_280 : BitVec 32 := 0#32
  ![v3.toNat, 0]
def k0_dev21 : Nat :=
  let c0_i32_279 : BitVec 32 := 0#32
  let c5_i32_277 : BitVec 32 := 5#32
  let c1_i32_278 : BitVec 32 := 1#32
  let v446 : BitVec 32 := Scalar.muli c5_i32_277 c1_i32_278
  let v447 : BitVec 32 := Scalar.addi c0_i32_279 v446
  v447.toNat
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_199 : BitVec 32 := 6#32
  let v354 : BitVec 1 := Scalar.cmpi .ne v2 c6_i32_199
  let v355 : BitVec 32 := Scalar.extui v354
  let c0_i32_201 : BitVec 32 := 0#32
  let v356 : BitVec 1 := Scalar.cmpi .ne v355 c0_i32_201
  v356

def k0_off20 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v3 : BitVec 32 := Scalar.muli v2 c64_i32
  let c0_i32_280 : BitVec 32 := 0#32
  ![v3.toNat, 0]
def k0_dev22 : Nat :=
  let c0_i32_279 : BitVec 32 := 0#32
  let c6_i32_277 : BitVec 32 := 6#32
  let c1_i32_278 : BitVec 32 := 1#32
  let v446 : BitVec 32 := Scalar.muli c6_i32_277 c1_i32_278
  let v447 : BitVec 32 := Scalar.addi c0_i32_279 v446
  v447.toNat
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_202 : BitVec 32 := 7#32
  let v357 : BitVec 1 := Scalar.cmpi .ne v2 c7_i32_202
  let v358 : BitVec 32 := Scalar.extui v357
  let c0_i32_204 : BitVec 32 := 0#32
  let v359 : BitVec 1 := Scalar.cmpi .ne v358 c0_i32_204
  v359

def k0_off22 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off23 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v3 : BitVec 32 := Scalar.muli v2 c64_i32
  let c0_i32_280 : BitVec 32 := 0#32
  ![v3.toNat, 0]
def k0_dev23 : Nat :=
  let c0_i32_279 : BitVec 32 := 0#32
  let c7_i32_277 : BitVec 32 := 7#32
  let c1_i32_278 : BitVec 32 := 1#32
  let v446 : BitVec 32 := Scalar.muli c7_i32_277 c1_i32_278
  let v447 : BitVec 32 := Scalar.addi c0_i32_279 v446
  v447.toNat
def k0_cond33 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_253 : BitVec 32 := 0#32
  let v422 : BitVec 1 := Scalar.cmpi .ne v2 c0_i32_253
  let v423 : BitVec 32 := Scalar.extui v422
  let c0_i32_255 : BitVec 32 := 0#32
  let v424 : BitVec 1 := Scalar.cmpi .ne v423 c0_i32_255
  v424

def k0_off24 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v3 : BitVec 32 := Scalar.muli v2 c64_i32
  let c0_i32_279 : BitVec 32 := 0#32
  ![v3.toNat, 0]
def k0_cond34 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_256 : BitVec 32 := 1#32
  let v425 : BitVec 1 := Scalar.cmpi .ne v2 c1_i32_256
  let v426 : BitVec 32 := Scalar.extui v425
  let c0_i32_258 : BitVec 32 := 0#32
  let v427 : BitVec 1 := Scalar.cmpi .ne v426 c0_i32_258
  v427

def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v3 : BitVec 32 := Scalar.muli v2 c64_i32
  let c0_i32_279 : BitVec 32 := 0#32
  ![v3.toNat, 0]
def k0_cond35 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_259 : BitVec 32 := 2#32
  let v428 : BitVec 1 := Scalar.cmpi .ne v2 c2_i32_259
  let v429 : BitVec 32 := Scalar.extui v428
  let c0_i32_261 : BitVec 32 := 0#32
  let v430 : BitVec 1 := Scalar.cmpi .ne v429 c0_i32_261
  v430

def k0_off26 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v3 : BitVec 32 := Scalar.muli v2 c64_i32
  let c0_i32_279 : BitVec 32 := 0#32
  ![v3.toNat, 0]
def k0_cond36 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_262 : BitVec 32 := 3#32
  let v431 : BitVec 1 := Scalar.cmpi .ne v2 c3_i32_262
  let v432 : BitVec 32 := Scalar.extui v431
  let c0_i32_264 : BitVec 32 := 0#32
  let v433 : BitVec 1 := Scalar.cmpi .ne v432 c0_i32_264
  v433

def k0_off27 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v3 : BitVec 32 := Scalar.muli v2 c64_i32
  let c0_i32_279 : BitVec 32 := 0#32
  ![v3.toNat, 0]
def k0_cond37 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_265 : BitVec 32 := 4#32
  let v434 : BitVec 1 := Scalar.cmpi .ne v2 c4_i32_265
  let v435 : BitVec 32 := Scalar.extui v434
  let c0_i32_267 : BitVec 32 := 0#32
  let v436 : BitVec 1 := Scalar.cmpi .ne v435 c0_i32_267
  v436

def k0_off28 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v3 : BitVec 32 := Scalar.muli v2 c64_i32
  let c0_i32_279 : BitVec 32 := 0#32
  ![v3.toNat, 0]
def k0_cond38 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_268 : BitVec 32 := 5#32
  let v437 : BitVec 1 := Scalar.cmpi .ne v2 c5_i32_268
  let v438 : BitVec 32 := Scalar.extui v437
  let c0_i32_270 : BitVec 32 := 0#32
  let v439 : BitVec 1 := Scalar.cmpi .ne v438 c0_i32_270
  v439

def k0_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v3 : BitVec 32 := Scalar.muli v2 c64_i32
  let c0_i32_279 : BitVec 32 := 0#32
  ![v3.toNat, 0]
def k0_cond39 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_271 : BitVec 32 := 6#32
  let v440 : BitVec 1 := Scalar.cmpi .ne v2 c6_i32_271
  let v441 : BitVec 32 := Scalar.extui v440
  let c0_i32_273 : BitVec 32 := 0#32
  let v442 : BitVec 1 := Scalar.cmpi .ne v441 c0_i32_273
  v442

def k0_off30 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v3 : BitVec 32 := Scalar.muli v2 c64_i32
  let c0_i32_279 : BitVec 32 := 0#32
  ![v3.toNat, 0]
def k0_cond40 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_274 : BitVec 32 := 7#32
  let v443 : BitVec 1 := Scalar.cmpi .ne v2 c7_i32_274
  let v444 : BitVec 32 := Scalar.extui v443
  let c0_i32_276 : BitVec 32 := 0#32
  let v445 : BitVec 1 := Scalar.cmpi .ne v444 c0_i32_276
  v445

def k0_off31 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v3 : BitVec 32 := Scalar.muli v2 c64_i32
  let c0_i32_279 : BitVec 32 := 0#32
  ![v3.toNat, 0]
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x512 : Shape := ⟨2, ![512, 512]⟩
abbrev S512x8192 : Shape := ⟨2, ![512, 8192]⟩
abbrev S8192x512 : Shape := ⟨2, ![8192, 512]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S512x512, .bf16⟩
  | .hbm, ⟨1, _⟩ => ⟨S512x8192, .bf16⟩
  | .hbm, ⟨2, _⟩ => ⟨S8192x512, .bf16⟩
  | .hbm, ⟨3, _⟩ => ⟨S512x8192, .f32⟩
  | .hbm, ⟨4, _⟩ => ⟨S512x8192, .bf16⟩
  | .hbm, ⟨5, _⟩ => ⟨S_, .bf16⟩
  | .hbm, ⟨6, _⟩ => ⟨S512x8192, .bf16⟩
  | .hbm, ⟨7, _⟩ => ⟨S512x8192, .bf16⟩
  | .hbm, ⟨8, _⟩ => ⟨S512x512, .f32⟩
  | .hbm, ⟨9, _⟩ => ⟨S512x512, .bf16⟩
  | .hbm, ⟨10, _⟩ => ⟨S512x512, .f32⟩
  | _, _ => ⟨S512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Common.lean ====
/-
# `Common`: the cells, the buffers' pieces and the schedule of the all-pairs exchange

The kernel runs on eight devices. Each computes eight blocks of 64 rows of its partial product, sends block `q` to
device `q` (scatter), adds the eight blocks it holds for its own rows, and sends the sum to every other device (gather).
A device first tells every other device, on the barrier semaphore, that its landing buffers may be written.

Every device has the barrier cell and four arrays of eight DMA cells, one cell per peer: the scatter's send and receive
cells and the gather's send and receive cells. Each is used for one round. This file names those cells, the row blocks
and slots the transfers move, the contents they carry, and the schedule: who raises which cell, by how much, and what
is handed over with it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Ring
public import Idealize.ShloMosaic.Lib.ValueIdxCore
public import Idealize.ShloMosaic.Lib.ValueLayout
public import Idealize.ShloMosaic.Lib.Tactic

@[expose] public section

noncomputable section

namespace Cert.AllPairs

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds beside the exchange's, whose duties are named by a peer -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, all counters at zero, any generator registers. -/
def s₀ : MemSt nD τ sig (Elt F) := ⟨m, fun _ => 0, ρ⟩

/-! ## Peers -/

set_option backward.proofsInPublic true in
/-- The peer device `c` serves at step `j`: the next ones in turn, itself last. -/
def peer (c : Dev nD) (j : Fin 8) : Dev nD := ⟨(c.val + 1 + j.val) % 8, Nat.mod_lt _ (by decide)⟩
set_option backward.proofsInPublic true in
/-- The step at which device `c` serves `d`. -/
def turn (c d : Dev nD) : Fin 8 := ⟨(d.val + 7 + (8 - c.val)) % 8, Nat.mod_lt _ (by decide)⟩

theorem turn_peer (c : Dev nD) (j : Fin 8) : turn c (peer c j) = j := by revert c j; decide
theorem peer_turn (c d : Dev nD) : peer c (turn c d) = d := by revert c d; decide
theorem peer_eq_self (c : Dev nD) (j : Fin 8) : peer c j = c ↔ j = 7 := by revert c j; decide

/-- The order in which device `c` serves its peers, as a permutation. -/
def peers (c : Dev nD) : Fin 8 ≃ Dev nD := ⟨peer c, turn c, turn_peer c, peer_turn c⟩

/-! ## The buffers and their pieces -/

abbrev xM : Memref sig .tc .vmem S512x512 .bf16 := Memref.whole cc0_stg0_0
abbrev w1M : Memref sig .tc .vmem S512x1024 .bf16 := Memref.whole cc0_stg1_0
abbrev w2M : Memref sig .tc .vmem S1024x512 .bf16 := Memref.whole cc0_stg2_0
abbrev oM : Memref sig .tc .vmem S512x512 .f32 := Memref.whole cc0_stg3_0
abbrev pM : Memref sig .tc .vmem S512x512 .bf16 := Memref.whole cc0_scratch0
abbrev gM : Memref sig .tc .vmem S512x512 .bf16 := Memref.whole cc0_scratch1
abbrev rM : Memref sig .tc .vmem S8x64x512 .bf16 := Memref.whole cc0_scratch2

/-- Rows `64 q` to `64 q + 63`. -/
abbrev rowOff (q : Fin 8) : Fin 2 → Nat := ![64 * q.val, 0]
theorem rowOff_inb (q : Fin 8) : ∀ a, rowOff q a + S64x512.size a ≤ S512x512.size a := by revert q; decide
abbrev rowRect (q : Fin 8) : Rect S512x512 := Rect.unit (s := S512x512) (rowOff q) S64x512.size (rowOff_inb q)
/-- Slot `q` of the scatter's landing buffer. -/
abbrev slotOff (q : Fin 8) : Fin 3 → Nat := ![q.val, 0, 0]
theorem slotOff_inb (q : Fin 8) : ∀ a, slotOff q a + S1x64x512.size a ≤ S8x64x512.size a := by revert q; decide
abbrev slotRect (q : Fin 8) : Rect S8x64x512 := Rect.unit (s := S8x64x512) (slotOff q) S1x64x512.size (slotOff_inb q)

abbrev pRows (q : Fin 8) : Memref sig .tc .vmem S64x512 .bf16 := pM.slice (rowRect q) (fun _ => rfl)
abbrev gRows (q : Fin 8) : Memref sig .tc .vmem S64x512 .bf16 := gM.slice (rowRect q) (fun _ => rfl)
abbrev rSlot (q : Fin 8) : Memref sig .tc .vmem S64x512 .bf16 :=
  (rM.slice (slotRect q) (fun _ => rfl) : Memref sig .tc .vmem S1x64x512 .bf16).squeeze S64x512 squeezes_S1x64x512_S64x512

/-! ## The cells -/

/-- The runtime's barrier semaphore. -/
abbrev barS : Sem sig := (SemArray.scalar (sig.barrier 0 rfl) : Sems sig S_).sem

theorem xsem_lt (k : Fin 4) (q : Fin 8) : 4 + (8 * k.val + q.val) < sig.nDmaSem := by revert k q; decide
/-- The DMA semaphore of array `k` for peer `q`: scatter send, scatter receive, gather send, gather receive. -/
def xsem (k : Fin 4) (q : Fin 8) : DmaSem sig := ⟨4 + (8 * k.val + q.val), xsem_lt k q⟩

set_option backward.proofsInPublic true in
/-- Which array and which peer a DMA semaphore is for; the first four are the pipeline's. -/
def xkind (s : DmaSem sig) : Option (Fin 4 × Fin 8) :=
  if 4 ≤ s.val then some (⟨(s.val - 4) / 8 % 4, Nat.mod_lt _ (by decide)⟩, ⟨(s.val - 4) % 8, Nat.mod_lt _ (by decide)⟩) else none

theorem xkind_xsem (k : Fin 4) (q : Fin 8) : xkind (xsem k q) = some (k, q) := by revert k q; decide

abbrev barCell (c : Dev nD) : GSem nD τ sig := ((c : Thread nD τ), .reg barS)
abbrev xCell (k : Fin 4) (c : Dev nD) (q : Fin 8) : GSem nD τ sig := ((c : Thread nD τ), .dma (xsem k q))

theorem barCell_inj {a b : Dev nD} (h : barCell a = barCell b) : a = b := Fin.ext (congrArg (fun g : GSem nD τ sig => g.1.1.val) h)
theorem xsem_inj {k k' : Fin 4} {q q' : Fin 8} (h : xsem k q = xsem k' q') : k = k' ∧ q = q' := by
  have := (xkind_xsem k q).symm.trans ((congrArg xkind h).trans (xkind_xsem k' q'))
  exact ⟨congrArg Prod.fst (Option.some.inj this), congrArg Prod.snd (Option.some.inj this)⟩
theorem xCell_inj {k k' : Fin 4} {c c' : Dev nD} {q q' : Fin 8} (h : xCell k c q = xCell k' c' q') : k = k' ∧ c = c' ∧ q = q' := by
  have h1 : c = c' := Fin.ext (congrArg (fun g : GSem nD τ sig => g.1.1.val) h)
  have h2 := xsem_inj (SemLoc.dma.inj (congrArg (fun g : GSem nD τ sig => g.2) h))
  exact ⟨h2.1, h1, h2.2⟩
theorem xCell_ne_bar (k : Fin 4) (c c' : Dev nD) (q : Fin 8) : xCell k c q ≠ barCell c' := fun h => by cases congrArg Prod.snd h

/-- What one transfer of a row block raises a cell by. -/
abbrev N : ℕ := (rSlot 0).view.dmaCredit
theorem N_pos : 0 < N := View.dmaCredit_pos _ (by decide)

/-! ## Contents -/

/-- The blocks of the operands staged on device `c`. -/
def xstg (c : Dev nD) : (cc0_stg0_0 : Ref sig .tc).ty.Contents (Elt F) :=
  (win0_0.blk (0 : Fin 1)).view.read (Elt F) ((s₀ m ρ).mem ((c : Thread nD τ).loc main_arg0))
def w1stg (c : Dev nD) : (cc0_stg1_0 : Ref sig .tc).ty.Contents (Elt F) :=
  (win0_1.blk (0 : Fin 1)).view.read (Elt F) ((s₀ m ρ).mem ((c : Thread nD τ).loc main_arg1))
def w2stg (c : Dev nD) : (cc0_stg2_0 : Ref sig .tc).ty.Contents (Elt F) :=
  (win0_2.blk (0 : Fin 1)).view.read (Elt F) ((s₀ m ρ).mem ((c : Thread nD τ).loc main_arg2))

/-- Rows `q` of device `c`'s copy of `x`. -/
def xRows (c : Dev nD) (q : Fin 8) : Vec F S64x512 .bf16 := xM.view.readAt (Elt F) (rowRect q).toLoadRect (xstg m ρ c)

/-- Device `c`'s partial product for rows `q`. -/
def part (c : Dev nD) (q : Fin 8) : FVec F S64x512 .bf16 := k0_pay4 (k0_pay1 (w1stg m ρ c)) (k0_pay2 (w2stg m ρ c)) (xRows m ρ c q)

/-- The scatter's landing buffer of device `c` when all has arrived: slot `s` holds device `s`'s partial product for rows `c`. -/
def landed (c : Dev nD) : (cc0_scratch2 : Ref sig .tc).ty.Contents (Elt F) :=
  fun i => part m ρ ⟨(i 0).val, (i 0).isLt⟩ c (ix2 (n0 := 64) (n1 := 512) (i 1) (i 2))

/-- Device `s`'s rows of the result. -/
def summed (s : Dev nD) : FVec F S64x512 .bf16 := k0_pay11 (landed m ρ s)

set_option backward.proofsInPublic true in
/-- The whole result, gathered: rows `s` are device `s`'s. -/
def gathered : (cc0_scratch1 : Ref sig .tc).ty.Contents (Elt F) :=
  fun i => summed m ρ ⟨(i 0).val / 64, by have h : (i 0).val < 512 := (i 0).isLt; exact (by omega : (i 0).val / 64 < 8)⟩
    (ix2 (n0 := 64) (n1 := 512) ⟨(i 0).val % 64, Nat.mod_lt _ (by decide)⟩ (i 1))

/-- What the kernel stores. -/
def outAll : (cc0_stg3_0 : Ref sig .tc).ty.Contents (Elt F) := k0_pay12 (gathered m ρ)

/-! ## The schedule -/

/-- A memref's elements on device `c`, some contents. -/
def some' (c : Dev nD) {s : Shape} {e : EltTy} (M : Memref sig .tc .vmem s e) : sProp 𝕄 :=
  iprop(∃ f : Buf (Elt F) (M.view.loc (c : Thread nD τ)), M.view.loc (c : Thread nD τ) ↦[M.view.set]{fullShare} f)

/-- A memref's elements on device `c` at a share, read as `X`. -/
def holds (c : Dev nD) {s : Shape} {e : EltTy} (M : Memref sig .tc .vmem s e) (q : PosShare TreeShare) (X : s.Idx → Elt F e) : sProp 𝕄 :=
  iprop(∃ f : Buf (Elt F) (M.view.loc (c : Thread nD τ)), ⌜M.view.read (Elt F) f = X⌝ ∗ (M.view.loc (c : Thread nD τ) ↦[M.view.set]{q} f))

omit [FloatOps F] in
instance some'_storable (c : Dev nD) {s : Shape} {e : EltTy} (M : Memref sig .tc .vmem s e) :
    BI.Storable (upEmb : UEmb _ 𝕄) (some' (F := F) c M) := by unfold some'; infer_instance
omit [FloatOps F] in
instance holds_storable (c : Dev nD) {s : Shape} {e : EltTy} (M : Memref sig .tc .vmem s e) (q : PosShare TreeShare) (X : s.Idx → Elt F e) :
    BI.Storable (upEmb : UEmb _ 𝕄) (holds (F := F) c M q X) := by unfold holds; infer_instance

/-- The share of its own rows a device lends to the gather's transfer to `q`; the share named by itself it keeps. -/
abbrev lent (q : Fin 8) : PosShare TreeShare := ShareLeaves.leaf 3 fullShare q

/-- With `d`'s signal to `c`'s barrier: `d`'s landing slot and landing rows for `c`. -/
def barPay (c d : Dev nD) : sProp 𝕄 := iprop(some' d (rSlot c) ∗ some' d (gRows c))

/-- With a DMA cell of device `c` for peer `q`: what was lent to the send, or what arrived. -/
def xPay (k : Fin 4) (c : Dev nD) (q : Fin 8) : sProp 𝕄 :=
  match k with
  | 0 => some' c (pRows q)
  | 1 => holds c (rSlot q) fullShare (part m ρ q c)
  | 2 => holds c (gRows c) (lent q) (summed m ρ c)
  | 3 => holds c (gRows q) fullShare (summed m ρ q)

instance barPay_storable (c d : Dev nD) : BI.Storable (upEmb : UEmb _ 𝕄) (barPay (F := F) c d) := by unfold barPay; infer_instance
instance xPay_storable (k : Fin 4) (c : Dev nD) (q : Fin 8) : BI.Storable (upEmb : UEmb _ 𝕄) (xPay m ρ k c q) := by
  unfold xPay; split <;> infer_instance

/-- The duties of a cell of device `c`: at the barrier one for every other device; at a DMA cell for another device
    the one transfer; none elsewhere. -/
def dutiesOf (c : Dev nD) : SemLoc sig → Finset (Fin 8)
  | .reg b => if b = barS then Finset.univ.erase c else ∅
  | .dma s => match xkind s with
    | some (_, q) => if q = c then ∅ else {0}
    | none => ∅

/-- One round, round 0. -/
def sched : Rounds.Schedule (GSem nD τ sig) (Fin 8) 𝕄 where
  duties g r := if r = 0 ∧ g.1.2 = .tc then dutiesOf g.1.1 g.2 else ∅
  unitless _ := False
  amount g _ _ := match g.2 with | .reg _ => 1 | .dma _ => N
  payload g _ d := match g.2 with
    | .reg _ => barPay g.1.1 d
    | .dma s => match xkind s with
      | some (k, q) => xPay m ρ k g.1.1 q
      | none => iprop(emp)
  amount_pos g _ _ _ := by
    split
    · exact Nat.one_pos
    · exact N_pos

instance sched_storable (g : GSem nD τ sig) (r : ℕ) (d : Fin 8) : BI.Storable (upEmb : UEmb _ 𝕄) ((sched (F := F) m ρ).payload g r d) := by
  dsimp only [sched]
  (repeat' split) <;> infer_instance

section Sched
variable (c : Dev nD) (k : Fin 4) (q : Fin 8)

theorem duties_bar : (sched m ρ).duties (barCell c) 0 = Finset.univ.erase c := by
  dsimp only [sched]; rw [if_pos ⟨rfl, rfl⟩]; dsimp only [dutiesOf]; exact if_pos rfl
theorem duties_x (h : q ≠ c) : (sched m ρ).duties (xCell k c q) 0 = {0} := by
  dsimp only [sched]; rw [if_pos ⟨rfl, rfl⟩]; dsimp only [dutiesOf]; rw [xkind_xsem]; exact if_neg h
theorem duties_self : (sched m ρ).duties (xCell k c c) 0 = ∅ := by
  dsimp only [sched]; rw [if_pos ⟨rfl, rfl⟩]; dsimp only [dutiesOf]; rw [xkind_xsem]; exact if_pos rfl
theorem duties_later (g : GSem nD τ sig) : ∀ r, 1 ≤ r → (sched m ρ).duties g r = ∅ :=
  fun r hr => by dsimp only [sched]; exact if_neg fun h => by omega
theorem amount_bar (d : Fin 8) : (sched m ρ).amount (barCell c) 0 d = 1 := rfl
theorem amount_x (d : Fin 8) : (sched m ρ).amount (xCell k c q) 0 d = N := rfl
theorem payload_bar (d : Fin 8) : (sched m ρ).payload (barCell c) 0 d = barPay c d := rfl
theorem payload_x (d : Fin 8) : (sched m ρ).payload (xCell k c q) 0 d = xPay m ρ k c q := by
  dsimp only [sched]; rw [xkind_xsem]

theorem expect_bar : (sched m ρ).expect (barCell c) 0 = 7 := by
  unfold Schedule.expect Schedule.amountOf
  rw [duties_bar, Finset.sum_congr rfl fun d _ => amount_bar m ρ c d, Finset.sum_const, Finset.card_erase_of_mem (Finset.mem_univ _)]; rfl
theorem expect_x (h : q ≠ c) : (sched m ρ).expect (xCell k c q) 0 = N := by
  unfold Schedule.expect Schedule.amountOf; rw [duties_x m ρ c k q h, Finset.sum_singleton, amount_x]

theorem rest_bar : bigSep ((sched m ρ).duties (barCell c) 0 \ ∅) (fun d => (sched m ρ).payload (barCell c) 0 d)
    = bigSep (Finset.univ.erase c) (fun d => barPay c d) := by
  rw [Finset.sdiff_empty, duties_bar]; rfl
theorem rest_x (h : q ≠ c) : bigSep ((sched m ρ).duties (xCell k c q) 0 \ ∅) (fun d => (sched m ρ).payload (xCell k c q) 0 d) = xPay m ρ k c q := by
  rw [Finset.sdiff_empty, duties_x m ρ c k q h, bigSep_singleton, payload_x]

end Sched

/-! ## Families over the peers, consumed and produced one at a time -/

/-- `Φ` at every peer but `c` itself. -/
def oth (c : Dev nD) (Φ : Fin 8 → sProp 𝕄) (q : Fin 8) : sProp 𝕄 := if q = c then iprop(emp) else Φ q
/-- `Φ` at the places from `n` on, -/
def From (n : ℕ) (Φ : Fin 8 → sProp 𝕄) : sProp 𝕄 := bigSep (Finset.univ.filter fun i : Fin 8 => n ≤ i.val) Φ
/-- and at those before `n`. -/
def Upto (n : ℕ) (Φ : Fin 8 → sProp 𝕄) : sProp 𝕄 := bigSep (Finset.univ.filter fun i : Fin 8 => i.val < n) Φ

omit [FloatOps F] in
theorem oth_self (c : Dev nD) (Φ : Fin 8 → sProp 𝕄) : oth c Φ c = iprop(emp) := if_pos rfl
omit [FloatOps F] in
theorem oth_ne {c : Dev nD} {q : Fin 8} (h : q ≠ c) (Φ : Fin 8 → sProp 𝕄) : oth c Φ q = Φ q := if_neg h

omit [FloatOps F] in
theorem From_zero (Φ : Fin 8 → sProp 𝕄) : From 0 Φ = bigSep Finset.univ Φ := by
  unfold From; rw [show (Finset.univ.filter fun i : Fin 8 => 0 ≤ i.val) = Finset.univ from by decide]
omit [FloatOps F] in
theorem From_end (Φ : Fin 8 → sProp 𝕄) : From 8 Φ = iprop(emp) := by
  unfold From; rw [show (Finset.univ.filter fun i : Fin 8 => 8 ≤ i.val) = ∅ from by decide, BI.bigSep_empty]; rfl
omit [FloatOps F] in
theorem From_step (q : Fin 8) (Φ : Fin 8 → sProp 𝕄) : From q.val Φ = iprop(Φ q ∗ From (q.val + 1) Φ) := by
  unfold From
  rw [show (Finset.univ.filter fun i : Fin 8 => q.val ≤ i.val) = insert q (Finset.univ.filter fun i : Fin 8 => q.val + 1 ≤ i.val) from by revert q; decide,
    bigSep_insert (by revert q; decide)]; rfl
omit [FloatOps F] in
theorem Upto_zero (Φ : Fin 8 → sProp 𝕄) : Upto 0 Φ = iprop(emp) := by
  unfold Upto; rw [show (Finset.univ.filter fun i : Fin 8 => i.val < 0) = ∅ from by decide, BI.bigSep_empty]; rfl
omit [FloatOps F] in
theorem Upto_end (Φ : Fin 8 → sProp 𝕄) : Upto 8 Φ = bigSep Finset.univ Φ := by
  unfold Upto; rw [show (Finset.univ.filter fun i : Fin 8 => i.val < 8) = Finset.univ from by decide]
omit [FloatOps F] in
theorem Upto_step (q : Fin 8) (Φ : Fin 8 → sProp 𝕄) : Upto (q.val + 1) Φ = iprop(Φ q ∗ Upto q.val Φ) := by
  unfold Upto
  rw [show (Finset.univ.filter fun i : Fin 8 => i.val < q.val + 1) = insert q (Finset.univ.filter fun i : Fin 8 => i.val < q.val) from by revert q; decide,
    bigSep_insert (by revert q; decide)]; rfl
omit [FloatOps F] in
/-- A family over all devices is its part at `c` and the others. -/
theorem all_eq (c : Dev nD) (Φ : Fin 8 → sProp 𝕄) : bigSep Finset.univ Φ = iprop(Φ c ∗ bigSep Finset.univ (oth c Φ)) := by
  rw [bigSep_erase (Finset.mem_univ c), bigSep_erase (Finset.mem_univ c) (Φ := oth c Φ), oth_self]
  refine Eq.trans ?_ (congrArg (BI.sep (Φ c)) (emp_sep_eq (P := bigSep (Finset.univ.erase c) (oth c Φ))).symm)
  exact congrArg (BI.sep (Φ c)) (bigSep_congr fun q hq => (oth_ne (Finset.mem_erase.mp hq).1 Φ).symm)

/-! ## What a device owes -/

/-- The part of a family of tallies from `n` on. -/
def owesFrom (n : ℕ) (f : Fin 8 → CellTallies nD τ sig Unit) : CellTallies nD τ sig Unit := ∑ i ∈ Finset.univ.filter (fun i : Fin 8 => n ≤ i.val), f i

theorem owesFrom_step (q : Fin 8) (f : Fin 8 → CellTallies nD τ sig Unit) : owesFrom q.val f = owesFrom (q.val + 1) f + f q := by
  unfold owesFrom
  rw [show (Finset.univ.filter fun i : Fin 8 => q.val ≤ i.val) = insert q (Finset.univ.filter fun i : Fin 8 => q.val + 1 ≤ i.val) from by revert q; decide,
    Finset.sum_insert (by revert q; decide), add_comm]
theorem owesFrom_end (f : Fin 8 → CellTallies nD τ sig Unit) : owesFrom 8 f = 0 := by
  unfold owesFrom; rw [show (Finset.univ.filter fun i : Fin 8 => 8 ≤ i.val) = ∅ from by decide, Finset.sum_empty]

/-- One unit to every other device's barrier; -/
def oBar (c : Dev nD) (q : Fin 8) : CellTallies nD τ sig Unit := if q = c then 0 else tallyAt (barCell q) () 1
/-- one block's credit to the cell of every other device that the scatter lands on, in the order they are served; -/
def oSc (c : Dev nD) (j : Fin 8) : CellTallies nD τ sig Unit := if j = 7 then 0 else tallyAt (xCell 1 (peer c j) c) () N
/-- and one to that the gather lands on. -/
def oGa (c : Dev nD) (q : Fin 8) : CellTallies nD τ sig Unit := if q = c then 0 else tallyAt (xCell 3 q c) () N

def owedGa (c : Dev nD) (n : ℕ) : CellTallies nD τ sig Unit := owesFrom n (oGa c)
def owedSc (c : Dev nD) (n : ℕ) : CellTallies nD τ sig Unit := owedGa c 0 + owesFrom n (oSc c)
def owedBar (c : Dev nD) (n : ℕ) : CellTallies nD τ sig Unit := owedSc c 0 + owesFrom n (oBar c)
abbrev O₀ (c : Dev nD) : CellTallies nD τ sig Unit := owedBar c 0

theorem owedGa_end (c : Dev nD) : owedGa c 8 = 0 := owesFrom_end _
theorem owedSc_end (c : Dev nD) : owedSc c 7 = owedGa c 0 := by
  unfold owedSc
  rw [show (7 : ℕ) = (7 : Fin 8).val from rfl, owesFrom_step, show (7 : Fin 8).val + 1 = 8 from rfl, owesFrom_end, show oSc c 7 = 0 from if_pos rfl, add_zero, add_zero]
theorem owedBar_end (c : Dev nD) : owedBar c 8 = owedSc c 0 := by unfold owedBar; rw [owesFrom_end, add_zero]

/-! ## The levels: staging and send cells below the barrier, below the scatter's receive cells, below the gather's -/

def L (g : GSem nD τ sig) : Finset Unit := if g.1.2 = .tc then {()} else ∅
def lvOf : SemLoc sig → ℕ
  | .reg _ => 1
  | .dma s => match xkind s with
    | some (1, _) => 2
    | some (3, _) => 3
    | _ => 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lvOf_x (k : Fin 4) (q : Fin 8) : lvOf (.dma (xsem k q)) = if k = 1 then 2 else if k = 3 then 3 else 0 := by revert k q; decide

/-- Every tally of the sum is at a level above `n`. -/
def Above (n : ℕ) (O : CellTallies nD τ sig Unit) : Prop := ∀ (g : GSem nD τ sig) (u : Unit), 0 < O g u → g.1.2 = .tc ∧ n < lv g u

theorem Above.zero (n : ℕ) : Above n 0 := fun g u h => absurd h (Nat.lt_irrefl 0)
theorem Above.add {n : ℕ} {A B : CellTallies nD τ sig Unit} (ha : Above n A) (hb : Above n B) : Above n (A + B) := fun g u h => by
  rw [Pi.add_apply, Finsupp.add_apply] at h
  rcases Nat.eq_zero_or_pos (A g u) with h0 | h0
  · exact hb g u (by omega)
  · exact ha g u h0
theorem Above.sum {n : ℕ} {f : Fin 8 → CellTallies nD τ sig Unit} (hf : ∀ i, Above n (f i)) (S : Finset (Fin 8)) : Above n (∑ i ∈ S, f i) := by
  induction S using Finset.induction_on with
  | empty => rw [Finset.sum_empty]; exact Above.zero n
  | insert a S ha ih => rw [Finset.sum_insert ha]; exact (hf a).add ih
theorem Above.tally {n : ℕ} (c : Dev nD) (sm : SemLoc sig) (k : ℕ) (h : n < lvOf sm) : Above n (tallyAt ((c : Thread nD τ), sm) () k) := fun g u hg => by
  rw [tallyAt_apply] at hg
  by_cases e : g = ((c : Thread nD τ), sm) ∧ u = ()
  · rw [e.1]; exact ⟨rfl, h⟩
  · rw [if_neg e] at hg; exact absurd hg (Nat.lt_irrefl 0)

theorem above_owedGa (c : Dev nD) (n : ℕ) : Above 2 (owedGa c n) := Above.sum (fun q => by
  unfold oGa; split
  · exact Above.zero _
  · exact Above.tally _ _ _ (by rw [lvOf_x]; decide)) _
theorem Above.mono {n n' : ℕ} (h : n ≤ n') {O : CellTallies nD τ sig Unit} (ho : Above n' O) : Above n O :=
  fun g u hg => ⟨(ho g u hg).1, lt_of_le_of_lt h (ho g u hg).2⟩
theorem above_owedSc (c : Dev nD) (n : ℕ) : Above 1 (owedSc c n) := ((above_owedGa c 0).mono (by decide)).add (Above.sum (fun q => by
  unfold oSc; split
  · exact Above.zero _
  · exact Above.tally _ _ _ (by rw [lvOf_x]; decide)) _)
theorem above_owedBar (c : Dev nD) (n : ℕ) : Above 0 (owedBar c n) := ((above_owedSc c 0).mono (by decide)).add (Above.sum (fun q => by
  unfold oBar; split
  · exact Above.zero _
  · exact Above.tally _ _ _ (by decide)) _)

omit [FloatOps F] in
/-- A device may wait on a cell of its own at level at most `n` while it owes only above `n`. -/
theorem mayWait_of (c : Dev nD) (sm : SemLoc sig) (n : ℕ) (hs : lvOf sm ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

/-! ## The records every device shares: the cells' invariants under their names, and that each is at round 0 -/

/-- The exchange's semaphores of one device: the barrier, or array and peer. -/
abbrev Cells : Type := Option (Fin 4 × Fin 8)
abbrev csem : Cells → SemLoc sig
  | none => .reg barS
  | some (k, q) => .dma (xsem k q)
abbrev kcell (ck : Dev nD × Cells) : GSem nD τ sig := ((ck.1 : Thread nD τ), csem ck.2)

def records (K : Dev nD × Cells → ℕ) : sProp 𝕄 :=
  iprop((bigSep Finset.univ fun ck : Dev nD × Cells => cellInv ER (sched m ρ) (K ck) (kcell ck))
    ∗ bigSep Finset.univ fun ck : Dev nD × Cells => reached ER (kcell ck) 0)

instance records_persistent (K : Dev nD × Cells → ℕ) : BI.Persistent (records m ρ K) := by unfold records; infer_instance

theorem rec_inv (K : Dev nD × Cells → ℕ) (ck : Dev nD × Cells) : records m ρ K ⊢ cellInv ER (sched m ρ) (K ck) (kcell ck) := by

  have h : (bigSep Finset.univ fun ck : Dev nD × Cells => cellInv ER (sched m ρ) (K ck) (kcell ck) : sProp 𝕄) ⊢ cellInv ER (sched m ρ) (K ck) (kcell ck) :=
    bigSep_elim (Finset.mem_univ ck)
  unfold records; iintro ⟨H, -⟩; iapply h; iexact H
theorem rec_reached (K : Dev nD × Cells → ℕ) (ck : Dev nD × Cells) : records m ρ K ⊢ reached ER (kcell ck) 0 := by

  have h : (bigSep Finset.univ fun ck : Dev nD × Cells => reached ER (kcell ck) 0 : sProp 𝕄) ⊢ reached ER (kcell ck) 0 := bigSep_elim (Finset.mem_univ ck)
  unfold records; iintro ⟨-, H⟩; iapply h; iexact H

end Cert.AllPairs

end
-- ==== Proof.Steps.lean ====
/-
# `Steps`: one rule for each kind of step of the exchange

Each rule is for one operation of the kernel, or one block computed and stored, at any device and any peer. A phase's
state — what is left to hand over and what has been received so far — is a family over the peers cut at the step the
phase has reached, so that a phase of eight operations is its rule applied eight times.
-/
module

public import proofs.«01_k».proof.Proof.Common
public import Idealize.ShloMosaic.Lib.ViewIndex

@[expose] public section

noncomputable section

namespace Cert.AllPairs

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a piece of the body on device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever waits it has recorded. -/
def owing (c : Dev nD) (O : CellTallies nD τ sig Unit) : sProp 𝕄 := iprop(∃ W, owes (c : Thread nD τ) O W)

variable (K : Dev nD × Cells → ℕ) (c : Dev nD) {α : Type} {k : Prog (TpuEff nD τ sig (Elt F) Λ₀ .tc) α}
variable {Q : α → sProp (MT nD τ sig Unit (Elt F) ℕ UU ℕ)}

/-! ## The ready signals -/

/-- The signals to the devices from `n` on are to be sent. -/
def Signals (n : ℕ) : sProp 𝕄 :=
  iprop(owing c (owedBar c n) ∗ From n (oth c fun q => iprop(dutyTok ER (barCell q) 0 c ∗ barPay q c)))

theorem step_signal (q : Dev nD) {n n' : ℕ} (hn : n = q.val) (hn' : n' = q.val + 1) {cond : BitVec 1} (hc : cond = 1#1 ↔ q ≠ c) {dst : cond = 1#1 → Dev nD} (hd : ∀ h, dst h = q) :
    records m ρ K
      ⊢ iprop(Signals c n -∗ (Signals c n' -∗ wpc c k Q)
          -∗ wpc c (if h : cond = 1#1 then (semSignalWord (dst h) barS 1#32 >>= fun _ => k) else k) Q) := by
  subst hn; subst hn'
  by_cases h : cond = 1#1
  · rw [dif_pos h, hd h]
    have hq := hc.mp h
    unfold Signals owing owedBar
    rw [From_step q, owesFrom_step q, oth_ne hq, show oBar c q = tallyAt (barCell q) () 1 from if_neg hq, ← add_assoc]
    simp only [semSignalWord, Prog.bind_op, Prog.bind_ret]
    iintro #HR ⟨⟨%W, HO⟩, ⟨Ht, Hp⟩, Hrest⟩ Hk
    iapply (Rounds.wp_signal 𝒱₀ ER (sched m ρ) (c : Thread nD τ) none (dst := (q : Thread nD τ)) (κ := K (q, none)) (d := c)
      (by rw [duties_bar]; exact Finset.mem_erase.mpr ⟨hq.symm, Finset.mem_univ _⟩) ((amount_bar m ρ q c).trans (by decide)) ()
      (owedSc c 0 + owesFrom (q.val + 1) (oBar c)) rfl) $$ [HO Ht Hp]
    · isplitr; · iapply (rec_inv m ρ K (q, none)); iexact HR
      isplitl [HO]; · iexact HO
      isplitl [Ht]; · iexact Ht
      isplitl [Hp]; · rw [payload_bar]; iexact Hp
      iapply (rec_reached m ρ K (q, none)); iexact HR
    iintro HO
    iapply Hk
    isplitl [HO]; · iexists W; iexact HO
    iexact Hrest
  · rw [dif_neg h]
    have hq : q = c := by by_contra hn; exact h (hc.mpr hn)
    unfold Signals owing owedBar
    rw [From_step q, owesFrom_step q, hq, oth_self, show oBar c c = 0 from if_pos rfl, add_zero]
    iintro - ⟨HO, -, Hrest⟩ Hk
    iapply Hk
    isplitl [HO] <;> iassumption

/-- The wait for all seven ready signals: every other device's landing slot and landing rows for this one. -/
theorem step_ready :
    records m ρ K
      ⊢ iprop(levAts L lv -∗ owing c (owedSc c 0) -∗ cred (tallyAt (barCell c) () 7) -∗ atPos ER (barCell c) 0 ∅ 0
          -∗ (owing c (owedSc c 0) -∗ atPos ER (barCell c) 1 ∅ 0 -∗ bigSep Finset.univ (oth c fun d => barPay c d) -∗ wpc c k Q)
          -∗ wpc c (semWaitWord barS 7#32 >>= fun _ => k) Q) := by
  unfold owing
  simp only [semWaitWord, Prog.bind_op, Prog.bind_ret]
  iintro #HR #HL ⟨%W, HO⟩ Hc Hat Hk
  iapply (Rounds.wp_wait_rest_token 𝒱₀ ER (sched m ρ) (c : Thread nD τ) none (κ := K (c, none))
      (wpE_semWait_eq 𝒱₀ (c : Thread nD τ) none Set.univ) (Set.mem_univ _) () (O := owedSc c 0) (W := W) (R := 0) (m := 0) (T := ∅)
      (by rw [expect_bar]; decide)) $$ [Hc HO Hat]
  · isplitr; · iapply (rec_inv m ρ K (c, none)); iexact HR
    isplitl [Hc]; · iexact Hc
    isplitl [HO]; · iexact HO
    isplitr; · iapply (mayWait_of c (.reg barS) 1 (by decide) (above_owedSc c 0)); iexact HL
    iexact Hat
  iintro ⟨HO, Hat, -, Hp⟩
  iapply Hk $$ [HO] Hat [Hp]
  · iexists _; iexact HO
  ihave Hp := (Entails.of_eq (rest_bar m ρ c)) $$ Hp
  have e : bigSep (Finset.univ.erase c) (fun d => (barPay (F := F) c d)) ⊢ bigSep Finset.univ (oth c fun d => barPay c d) :=
    Entails.of_eq (by
      rw [bigSep_erase (Finset.mem_univ c) (Φ := oth c fun d => barPay c d), oth_self]
      refine Eq.trans ?_ (emp_sep_eq (P := bigSep (Finset.univ.erase c) (oth c fun d => barPay c d))).symm
      exact bigSep_congr fun q hq => (oth_ne (Finset.mem_erase.mp hq).1 _).symm)
  iapply e; iexact Hp

/-! ## Computing a block -/

/-- The staged `x`. -/
def xPts : sProp 𝕄 := ((c : Thread nD τ).loc cc0_stg0_0) ↦{fullShare} xstg m ρ c

/-- One block of the product computed and stored in the rows it is sent from. -/
theorem step_block (q : Dev nD) {off : Fin 2 → Nat} (ho : off = rowOff q) {inb : ∀ a, off a + S64x512.size a ≤ S512x512.size a}
    {pay : Vec F S64x512 .bf16 → FVec F S64x512 .bf16} (hp : pay (xRows m ρ c q) = part m ρ c q) {hl hl' hs hm} :
    xPts m ρ c
      ⊢ iprop(some' c (pRows q) -∗ (xPts m ρ c -∗ holds c (pRows q) fullShare (part m ρ c q) -∗ wpc c k Q)
          -∗ wpc c (Prog.lift (.load xM (Rect.unit (s := S512x512) off S64x512.size inb).toLoadRect hl) >>= fun v =>
              Prog.lift (.load pM (Rect.unit (s := S512x512) off S64x512.size inb).toLoadRect hl') >>= fun _ =>
              Prog.lift (.store pM (Rect.unit (s := S512x512) off S64x512.size inb) (pay v) Finset.univ hs hm) >>= fun _ => k) Q) := by
  subst ho
  unfold xPts some' holds
  simp only [Prog.bind_lift]
  iintro Hx ⟨%f, Hp⟩ Hk
  iapply (wp_load 𝒱₀ (c : Thread nD τ) none Set.univ (m := xM) (Finset.subset_univ _)) $$ Hx; iintro Hx
  iapply (wp_load_rect 𝒱₀ (c : Thread nD τ) none Set.univ (m := pM) (r := rowRect q) (Finset.Subset.refl _)) $$ Hp; iintro Hp
  iapply (wp_store 𝒱₀ (c : Thread nD τ) none Set.univ (m := pM) (r := rowRect q) (Mk := Finset.univ) (S := (pM.access (rowRect q)).set) (Finset.Subset.refl _)) $$ Hp; iintro Hp
  iapply Hk $$ Hx
  iexists _
  isplitr [Hp]
  rotate_left
  · iexact Hp
  · ipureintro
    exact (View.read_write_univ (v := (pRows q).view) f _).trans hp

/-- The device's own block goes straight to its slot of the landing buffer. -/
theorem step_own {off : Fin 2 → Nat} (ho : off = rowOff c) {inb : ∀ a, off a + S64x512.size a ≤ S512x512.size a}
    {off' : Fin 3 → Nat} (ho' : off' = slotOff c) {inb' : ∀ a, off' a + S1x64x512.size a ≤ S8x64x512.size a}
    {pay : Vec F S64x512 .bf16 → FVec F S1x64x512 .bf16}
    (hp : pay (xRows m ρ c c) = shapeCast S1x64x512 (part m ρ c c) shapeCasts_S64x512_S1x64x512) {hl hl' hs hm} :
    xPts m ρ c
      ⊢ iprop(some' c (rSlot c) -∗ (xPts m ρ c -∗ holds c (rSlot c) fullShare (part m ρ c c) -∗ wpc c k Q)
          -∗ wpc c (Prog.lift (.load xM (Rect.unit (s := S512x512) off S64x512.size inb).toLoadRect hl) >>= fun v =>
              Prog.lift (.load rM (Rect.unit (s := S8x64x512) off' S1x64x512.size inb').toLoadRect hl') >>= fun _ =>
              Prog.lift (.store rM (Rect.unit (s := S8x64x512) off' S1x64x512.size inb') (pay v) Finset.univ hs hm) >>= fun _ => k) Q) := by
  subst ho; subst ho'
  have hset : (rSlot c).view.set = (rM.access (slotRect c)).set := View.set_reshape _ _
  unfold xPts some' holds
  rw [hset]
  simp only [Prog.bind_lift]
  iintro Hx ⟨%f, Hp⟩ Hk
  iapply (wp_load 𝒱₀ (c : Thread nD τ) none Set.univ (m := xM) (Finset.subset_univ _)) $$ Hx; iintro Hx
  iapply (wp_load_rect 𝒱₀ (c : Thread nD τ) none Set.univ (m := rM) (r := slotRect c) (Finset.Subset.refl _)) $$ Hp; iintro Hp
  iapply (wp_store 𝒱₀ (c : Thread nD τ) none Set.univ (m := rM) (r := slotRect c) (Mk := Finset.univ) (S := (rM.access (slotRect c)).set) (Finset.Subset.refl _)) $$ Hp; iintro Hp
  iapply Hk $$ Hx
  iexists _
  isplitr [Hp]
  rotate_left
  · iexact Hp
  · ipureintro
    funext x
    have h1 := congrFun (View.read_write_univ (v := rM.access (slotRect c)) f (pay (xRows m ρ c c)))
      (Shape.reshapeEquiv squeezes_S1x64x512_S64x512.numel_eq x)
    refine Eq.trans h1 ?_
    rw [hp]; unfold shapeCast
    rw [Shape.reshapeEquiv_reshapeEquiv, Shape.reshapeEquiv_self]

/-! ## The scatter -/

/-- What a scatter transfer to `q` needs besides the computed rows: the duties it pays and the slot it lands on. -/
def scLeft (q : Dev nD) : sProp 𝕄 := iprop(dutyTok ER (xCell 0 c q) 0 0 ∗ dutyTok ER (xCell 1 q c) 0 0 ∗ some' q (rSlot c))

/-- The scatter at its step `n`. -/
def Scatter (n : ℕ) : sProp 𝕄 :=
  iprop(owing c (owedSc c n) ∗ From n (fun j => oth c (scLeft c) (peer c j))
    ∗ Upto n (fun j => oth c (fun q => cred (tallyAt (xCell 0 c q) () N)) (peer c j)))

theorem step_scatter (j : Fin 8) (hj : j ≠ 7) {n n' : ℕ} (hn : n = j.val) (hn' : n' = j.val + 1) {dst : Dev nD} (hd : dst = peer c j)
    {off : Fin 2 → Nat} (ho : off = rowOff (peer c j)) {inb : ∀ a, off a + S64x512.size a ≤ S512x512.size a}
    {off' : Fin 3 → Nat} (ho' : off' = slotOff c) {inb' : ∀ a, off' a + S1x64x512.size a ≤ S8x64x512.size a}
    {sS sR : DmaSem sig} (hS : sS = xsem 0 (peer c j)) (hR : sR = xsem 1 c) {hsc h1 h2 h3} :
    records m ρ K
      ⊢ iprop(Scatter c n -∗ holds c (pRows (peer c j)) fullShare (part m ρ c (peer c j)) -∗ (Scatter c n' -∗ wpc c k Q)
          -∗ wpc c (Prog.lift (.enqueueDma (pM.slice (Rect.unit (s := S512x512) off S64x512.size inb) (fun _ => rfl) : Memref sig .tc .vmem S64x512 .bf16)
                (.remote (Dev.tc dst : Thread nD τ)
                  ((rM.slice (Rect.unit (s := S8x64x512) off' S1x64x512.size inb') (fun _ => rfl) : Memref sig .tc .vmem S1x64x512 .bf16).squeeze
                    S64x512 squeezes_S1x64x512_S64x512) (.dma sS) hsc) (.dma sR) h1 h2 h3) >>= fun _ => k) Q) := by
  subst ho; subst ho'; subst hS; subst hR; subst hn; subst hn'
  have hne : peer c j ≠ c := fun h => hj ((peer_eq_self c j).mp h)
  generalize hq : peer c j = q at *
  subst hd
  unfold Scatter holds owing owedSc
  rw [From_step j, Upto_step j, owesFrom_step j, hq, oth_ne hne, oth_ne hne, show oSc c j = tallyAt (xCell 1 dst c) () N from by rw [← hq]; exact if_neg hj, ← add_assoc]
  unfold scLeft some'
  simp only [Prog.bind_lift]
  iintro #HR ⟨⟨%W, HO⟩, ⟨⟨HtS, HtR, ⟨%fd, Hd⟩⟩, Hrest⟩, Hgot⟩ ⟨%fs, %hfs, Hs⟩ Hk
  iapply (Rounds.wp_send_pointsTo 𝒱₀ ER (sched m ρ) (c : Thread nD τ) none (c' := (Dev.tc dst : Thread nD τ)) (κ₁ := K (c, some (0, dst))) (κ₂ := K (dst, some (1, c)))
      (src := pRows dst) (dst := rSlot c) (q := fullShare) (fs := fs) (fd := fd) (W := W)
      (r₁ := 0) (r₂ := 0) (d₁ := 0) (d₂ := 0)
      (by rw [duties_x m ρ c 0 dst hne]; exact Finset.mem_singleton_self _)
      (by rw [duties_x m ρ dst 1 c hne.symm]; exact Finset.mem_singleton_self _)
      () () N rfl (amount_x m ρ c 0 dst 0) (amount_x m ρ dst 1 c 0) (owedGa c 0 + owesFrom (j.val + 1) (oSc c)) rfl
      (by rw [payload_x]; unfold xPay some'; iintro H; iexists fs; iexact H)
      (by
        rw [payload_x]; unfold xPay holds; iintro H; iexists _
        isplitr [H]
        rotate_left
        · iexact H
        · ipureintro; exact (View.read_write_univ (v := (rSlot c).view) fd _).trans hfs)) $$ [Hs Hd HO HtS HtR]
  · isplitr; · iapply (rec_inv m ρ K (c, some (0, dst))); iexact HR
    isplitr; · iapply (rec_inv m ρ K (dst, some (1, c))); iexact HR
    isplitl [Hs]; · iexact Hs
    isplitl [Hd]; · iexact Hd
    isplitl [HO]; · iexact HO
    isplitl [HtS]; · iexact HtS
    isplitr; · iapply (rec_reached m ρ K (c, some (0, dst))); iexact HR
    isplitl [HtR]; · iexact HtR
    iapply (rec_reached m ρ K (dst, some (1, c))); iexact HR
  iintro ⟨Hc, HO⟩
  iapply Hk
  isplitl [HO]; · iexists W; iexact HO
  isplitl [Hrest]; · iexact Hrest
  isplitl [Hc] <;> iassumption

/-! ## The gather -/

/-- What a gather transfer to `q` needs: the duties it pays, the rows it lands on and the share of the device's own rows. -/
def gaLeft (q : Dev nD) : sProp 𝕄 :=
  iprop(dutyTok ER (xCell 2 c q) 0 0 ∗ dutyTok ER (xCell 3 q c) 0 0 ∗ some' q (gRows c) ∗ holds c (gRows c) (lent q) (summed m ρ c))

/-- The gather at its step `n`. -/
def Gather (n : ℕ) : sProp 𝕄 :=
  iprop(owing c (owedGa c n) ∗ From n (oth c (gaLeft m ρ c)) ∗ Upto n (oth c fun q => cred (tallyAt (xCell 2 c q) () N)))

theorem step_gather (q : Dev nD) {n n' : ℕ} (hn : n = q.val) (hn' : n' = q.val + 1) {cond : BitVec 1} (hc : cond = 1#1 ↔ q ≠ c) {dst : cond = 1#1 → Dev nD} (hd : ∀ h, dst h = q)
    {off : Fin 2 → Nat} (ho : off = rowOff c) {inb : cond = 1#1 → ∀ a, off a + S64x512.size a ≤ S512x512.size a}
    {sS : DmaSem sig} (hS : sS = xsem 2 q) {sR : cond = 1#1 → DmaSem sig} (hR : ∀ h, sR h = xsem 3 c) {hsc : ∀ _, _} {h1 : ∀ _, _} {h2 : ∀ _, _} {h3 : ∀ _, _} :
    records m ρ K
      ⊢ iprop(Gather m ρ c n -∗ (Gather m ρ c n' -∗ wpc c k Q)
          -∗ wpc c (if h : cond = 1#1 then
              (Prog.lift (.enqueueDma (gM.slice (Rect.unit (s := S512x512) off S64x512.size (inb h)) (fun _ => rfl) : Memref sig .tc .vmem S64x512 .bf16)
                (.remote (Dev.tc (dst h) : Thread nD τ) (gM.slice (Rect.unit (s := S512x512) off S64x512.size (inb h)) (fun _ => rfl) : Memref sig .tc .vmem S64x512 .bf16)
                  (.dma sS) (hsc h)) (.dma (sR h)) (h1 h) (h2 h) (h3 h)) >>= fun _ => k) else k) Q) := by
  subst hn; subst hn'
  by_cases h : cond = 1#1
  · rw [dif_pos h]
    have hne := hc.mp h
    subst ho; subst hS
    generalize hsc h = hsc', h1 h = h1', h2 h = h2', h3 h = h3'
    revert hsc' h1' h2' h3'
    rw [hR h, hd h]
    intro hsc' h1' h2' h3'
    unfold Gather owing owedGa
    rw [From_step q, Upto_step q, owesFrom_step q, oth_ne hne, oth_ne hne, show oGa c q = tallyAt (xCell 3 q c) () N from if_neg hne]
    unfold gaLeft some' holds
    simp only [Prog.bind_lift]
    iintro #HR ⟨⟨%W, HO⟩, ⟨⟨HtS, HtR, ⟨%fd, Hd⟩, ⟨%fs, %hfs, Hs⟩⟩, Hrest⟩, Hgot⟩ Hk
    iapply (Rounds.wp_send_pointsTo 𝒱₀ ER (sched m ρ) (c : Thread nD τ) none (c' := (Dev.tc q : Thread nD τ)) (κ₁ := K (c, some (2, q))) (κ₂ := K (q, some (3, c)))
        (src := gRows c) (dst := gRows c) (q := lent q) (fs := fs) (fd := fd) (W := W)
        (r₁ := 0) (r₂ := 0) (d₁ := 0) (d₂ := 0)
        (by rw [duties_x m ρ c 2 q hne]; exact Finset.mem_singleton_self _)
        (by rw [duties_x m ρ q 3 c hne.symm]; exact Finset.mem_singleton_self _)
        () () N rfl (amount_x m ρ c 2 q 0) (amount_x m ρ q 3 c 0) (owesFrom (q.val + 1) (oGa c)) rfl
        (by
          rw [payload_x]; unfold xPay holds; iintro H; iexists fs
          isplitr [H]
          · ipureintro; exact hfs
          · iexact H)
        (by
          rw [payload_x]; unfold xPay holds; iintro H; iexists _
          isplitr [H]
          rotate_left
          · iexact H
          · ipureintro; exact (View.read_write_univ (v := (gRows c).view) fd _).trans hfs)) $$ [Hs Hd HO HtS HtR]
    · isplitr; · iapply (rec_inv m ρ K (c, some (2, q))); iexact HR
      isplitr; · iapply (rec_inv m ρ K (q, some (3, c))); iexact HR
      isplitl [Hs]; · iexact Hs
      isplitl [Hd]; · iexact Hd
      isplitl [HO]; · iexact HO
      isplitl [HtS]; · iexact HtS
      isplitr; · iapply (rec_reached m ρ K (c, some (2, q))); iexact HR
      isplitl [HtR]; · iexact HtR
      iapply (rec_reached m ρ K (q, some (3, c))); iexact HR
    iintro ⟨Hc, HO⟩
    iapply Hk
    isplitl [HO]; · iexists W; iexact HO
    isplitl [Hrest]; · iexact Hrest
    isplitl [Hc] <;> iassumption
  · rw [dif_neg h]
    have hq : q = c := by by_contra hn; exact h (hc.mpr hn)
    unfold Gather owing owedGa
    rw [From_step q, Upto_step q, owesFrom_step q, hq, oth_self, oth_self, show oGa c c = 0 from if_pos rfl, add_zero]
    iintro - ⟨HO, ⟨-, Hrest⟩, Hgot⟩ Hk
    iapply Hk
    isplitl [HO]; · iexact HO
    isplitl [Hrest]; · iexact Hrest
    isplitr; · iempintro
    iexact Hgot

/-! ## The waits on the device's own DMA cells -/

/-- The waits of array `a` in the order `e`, at step `n`, owing `O`: the cells still to wait on, with their credit; what
    those waited on gave. -/
def Waiting (a : Fin 4) (e : Fin 8 → Dev nD) (O : CellTallies nD τ sig Unit) (n : ℕ) : sProp 𝕄 :=
  iprop(owing c O ∗ From n (fun j => oth c (fun q => iprop(cred (tallyAt (xCell a c q) () N) ∗ atPos ER (xCell a c q) 0 ∅ 0)) (e j))
    ∗ Upto n (fun j => oth c (fun q => iprop(xPay m ρ a c q ∗ atPos ER (xCell a c q) 1 ∅ 0)) (e j)))

theorem step_wait (a : Fin 4) (e : Fin 8 → Dev nD) (j : Fin 8) (hj : e j ≠ c) {n n' : ℕ} (hn : n = j.val) (hn' : n' = j.val + 1)
    {O : CellTallies nD τ sig Unit} {l : ℕ} (hl : lvOf (.dma (xsem a (e j))) ≤ l) (hO : Above l O) {s : DmaSem sig} (hs : s = xsem a (e j)) {sp sp' : Space} {S S' : Shape} {t t' : EltTy} {κ' : Kind} {src : Memref sig .tc sp' S' t'} {dst : Memref sig κ' sp S t}
    (hN : dst.view.dmaCredit = N) {h1 h2} :
    records m ρ K
      ⊢ iprop(levAts L lv -∗ Waiting m ρ c a e O n -∗ (Waiting m ρ c a e O n' -∗ wpc c k Q)
          -∗ wpc c (Prog.lift (.waitDma2 s src dst h1 h2) >>= fun _ => k) Q) := by
  subst hs; subst hn; subst hn'
  unfold Waiting owing
  rw [From_step j, Upto_step j, oth_ne hj, oth_ne hj]
  simp only [Prog.bind_lift]
  iintro #HR #HL ⟨⟨%W, HO⟩, ⟨⟨Hc, Hat⟩, Hrest⟩, Hgot⟩ Hk
  iapply (Rounds.wp_wait_rest_token 𝒱₀ ER (sched m ρ) (c : Thread nD τ) none (κ := K (c, some (a, e j)))
      (wpE_waitDma2_eq 𝒱₀ (c : Thread nD τ) none Set.univ) (Set.mem_univ _) () (O := O) (W := W) (R := 0) (m := 0) (T := ∅)
      (by rw [Nat.zero_add, expect_x m ρ c a (e j) hj]; exact hN)) $$ [Hc HO Hat]
  · isplitr; · iapply (rec_inv m ρ K (c, some (a, e j))); iexact HR
    isplitl [Hc]; · rw [hN]; iexact Hc
    isplitl [HO]; · iexact HO
    isplitr; · iapply (mayWait_of c (.dma (xsem a (e j))) l hl hO); iexact HL
    iexact Hat
  iintro ⟨HO, Hat, -, Hp⟩
  iapply Hk
  isplitl [HO]; · iexists _; iexact HO
  isplitl [Hrest]; · iexact Hrest
  isplitr [Hgot]
  · isplitl [Hp]
    · ihave Hp := (Entails.of_eq (rest_x m ρ c a (e j) hj)) $$ Hp
      iexact Hp
    · iexact Hat
  · iexact Hgot

/-- The same, passed over at the device itself. -/
theorem step_waitIf (a : Fin 4) (q : Dev nD) {cond : BitVec 1} (hc : cond = 1#1 ↔ q ≠ c) {n n' : ℕ} (hn : n = q.val) (hn' : n' = q.val + 1)
    {O : CellTallies nD τ sig Unit} {l : ℕ} (hl : lvOf (.dma (xsem a q)) ≤ l) (hO : Above l O) {s : DmaSem sig} (hs : s = xsem a q)
    {sp sp' : Space} {S S' : Shape} {t t' : EltTy} {κ' : Kind} {src : cond = 1#1 → Memref sig .tc sp' S' t'} {dst : cond = 1#1 → Memref sig κ' sp S t}
    (hN : ∀ h, (dst h).view.dmaCredit = N) {h1 : ∀ _, _} {h2 : ∀ _, _} :
    records m ρ K
      ⊢ iprop(levAts L lv -∗ Waiting m ρ c a id O n -∗ (Waiting m ρ c a id O n' -∗ wpc c k Q)
          -∗ wpc c (if h : cond = 1#1 then (Prog.lift (.waitDma2 s (src h) (dst h) (h1 h) (h2 h)) >>= fun _ => k) else k) Q) := by
  by_cases h : cond = 1#1
  · rw [dif_pos h]
    exact step_wait m ρ K c a id q (hc.mp h) hn hn' hl hO hs (hN h)
  · rw [dif_neg h]
    subst hn; subst hn'
    have hq : q = c := by by_contra hn; exact h (hc.mpr hn)
    unfold Waiting
    rw [From_step q, Upto_step q, id_eq, hq, oth_self, oth_self]
    iintro - - ⟨HO, ⟨-, Hrest⟩, Hgot⟩ Hk
    iapply Hk
    isplitl [HO]; · iexact HO
    isplitl [Hrest]; · iexact Hrest
    isplitr; · iempintro
    iexact Hgot

/-! ## Adding up -/

/-- The whole landing buffer read, the device's own rows of the result stored. -/
theorem step_sum {off : Fin 2 → Nat} (ho : off = rowOff c) {inb : ∀ a, off a + S64x512.size a ≤ S512x512.size a}
    {z : Fin 3 → Nat} (hz : z = fun _ => 0) {inb' : ∀ a, z a + S8x64x512.size a ≤ S8x64x512.size a} {hl hl' hs hm} :
    (((c : Thread nD τ).loc cc0_scratch2) ↦{fullShare} landed m ρ c)
      ⊢ iprop(some' c (gRows c) -∗ ((((c : Thread nD τ).loc cc0_scratch2) ↦{fullShare} landed m ρ c) -∗ holds c (gRows c) fullShare (summed m ρ c) -∗ wpc c k Q)
          -∗ wpc c (Prog.lift (.load rM (Rect.unit (s := S8x64x512) z S8x64x512.size inb').toLoadRect hl) >>= fun v =>
              Prog.lift (.load gM (Rect.unit (s := S512x512) off S64x512.size inb).toLoadRect hl') >>= fun _ =>
              Prog.lift (.store gM (Rect.unit (s := S512x512) off S64x512.size inb) (k0_pay11 v) Finset.univ hs hm) >>= fun _ => k) Q) := by
  subst ho
  unfold some' holds
  simp only [Prog.bind_lift]
  iintro Hr ⟨%f, Hg⟩ Hk
  iapply (wp_load 𝒱₀ (c : Thread nD τ) none Set.univ (m := rM) (Finset.subset_univ _)) $$ Hr; iintro Hr
  rw [show rM.view.readAt (Elt F) (Rect.unit (s := S8x64x512) z S8x64x512.size inb').toLoadRect (landed m ρ c) = landed m ρ c from
    Memref.readAt_unit_zero (Elt F) cc0_scratch2 hz _ _]
  iapply (wp_load_rect 𝒱₀ (c : Thread nD τ) none Set.univ (m := gM) (r := rowRect c) (Finset.Subset.refl _)) $$ Hg; iintro Hg
  iapply (wp_store 𝒱₀ (c : Thread nD τ) none Set.univ (m := gM) (r := rowRect c) (Mk := Finset.univ) (S := (gM.access (rowRect c)).set) (Finset.Subset.refl _)) $$ Hg; iintro Hg
  iapply Hk $$ Hr
  iexists _
  isplitr [Hg]
  rotate_left
  · iexact Hg
  · ipureintro
    exact View.read_write_univ (v := (gRows c).view) f _

/-! ## Putting steps together -/

theorem step_deviceId {k : Dev nD → Prog (TpuEff nD τ sig (Elt F) Λ₀ .tc) α} :
    wpc c (k c) Q ⊢ wpc c (Prog.lift .deviceId >>= k) Q := Entails.of_eq (by simp only [Prog.bind_lift, wp_deviceId])

theorem step_bind {β : Type} {p : Prog (TpuEff nD τ sig (Elt F) Λ₀ .tc) β} {k : β → Prog (TpuEff nD τ sig (Elt F) Λ₀ .tc) α} :
    wpc c p (fun a => wpc c (k a) Q) ⊢ wpc c (p >>= k) Q := Entails.of_eq (wp_bind ..).symm

theorem step_pure (a : α) : Q a ⊢ wpc c (Pure.pure a) Q := le_wp_ret _ _ _ a Q

/-- A load from a buffer held whole. -/
theorem step_load {s : Shape} {e : EltTy} (M : Memref sig .tc .vmem s e) {r : LoadRect s} {hl : M.view.LoadsAt r} {sh : PosShare TreeShare}
    {f : Buf (Elt F) (M.view.loc (c : Thread nD τ))} {v : r.shape.Idx → Elt F e} (h : M.view.readAt (Elt F) r f = v)
    {k : (r.shape.Idx → Elt F e) → Prog (TpuEff nD τ sig (Elt F) Λ₀ .tc) α} :
    (M.view.loc (c : Thread nD τ) ↦{sh} f)
      ⊢ iprop(((M.view.loc (c : Thread nD τ) ↦{sh} f) -∗ wpc c (k v) Q) -∗ wpc c (Prog.lift (.load M r hl) >>= k) Q) := by
  subst h
  simp only [Prog.bind_lift]
  iintro H Hk
  iapply (wp_load 𝒱₀ (c : Thread nD τ) none Set.univ (m := M) (Finset.subset_univ _)) $$ H; iintro H
  iapply Hk; iexact H

/-- The rows still to be computed, from step `n` on. -/
def Rows (n : ℕ) : sProp 𝕄 := From n (fun j => oth c (fun q => some' (F := F) c (pRows q)) (peer c j))

omit [FloatOps F] in
theorem rows_take (j : Fin 8) (hj : j ≠ 7) {n n' : ℕ} (hn : n = j.val) (hn' : n' = j.val + 1) :
    Rows (F := F) c n ⊢ iprop(some' c (pRows (peer c j)) ∗ Rows c n') := by
  subst hn; subst hn'
  unfold Rows
  rw [From_step j, oth_ne fun h => hj ((peer_eq_self c j).mp h)]

/-- A block computed and sent. -/
theorem step_relay (j : Fin 8) (hj : j ≠ 7) {n n' : ℕ} (hn : n = j.val) (hn' : n' = j.val + 1) {dst : Dev nD} (hd : dst = peer c j)
    {o : Fin 2 → Nat} (ho : o = rowOff (peer c j)) {inb : ∀ a, o a + S64x512.size a ≤ S512x512.size a}
    {pay : Vec F S64x512 .bf16 → FVec F S64x512 .bf16} (hp : pay (xRows m ρ c (peer c j)) = part m ρ c (peer c j)) {hl hl' hs hm}
    {off : Fin 2 → Nat} (hoff : off = rowOff (peer c j)) {inb₁ : ∀ a, off a + S64x512.size a ≤ S512x512.size a}
    {off' : Fin 3 → Nat} (hoff' : off' = slotOff c) {inb' : ∀ a, off' a + S1x64x512.size a ≤ S8x64x512.size a}
    {sS sR : DmaSem sig} (hS : sS = xsem 0 (peer c j)) (hR : sR = xsem 1 c) {hsc h1 h2 h3} :
    records m ρ K
      ⊢ iprop(xPts m ρ c -∗ Rows c n -∗ Scatter c n -∗ (xPts m ρ c -∗ Rows c n' -∗ Scatter c n' -∗ wpc c k Q)
          -∗ wpc c (Prog.lift (.load xM (Rect.unit (s := S512x512) o S64x512.size inb).toLoadRect hl) >>= fun v =>
              Prog.lift (.load pM (Rect.unit (s := S512x512) o S64x512.size inb).toLoadRect hl') >>= fun _ =>
              Prog.lift (.store pM (Rect.unit (s := S512x512) o S64x512.size inb) (pay v) Finset.univ hs hm) >>= fun _ =>
              Prog.lift (.enqueueDma (pM.slice (Rect.unit (s := S512x512) off S64x512.size inb₁) (fun _ => rfl) : Memref sig .tc .vmem S64x512 .bf16)
                (.remote (Dev.tc dst : Thread nD τ)
                  ((rM.slice (Rect.unit (s := S8x64x512) off' S1x64x512.size inb') (fun _ => rfl) : Memref sig .tc .vmem S1x64x512 .bf16).squeeze
                    S64x512 squeezes_S1x64x512_S64x512) (.dma sS) hsc) (.dma sR) h1 h2 h3) >>= fun _ => k) Q) := by
  iintro #HR Hx Hr HS Hk
  ihave Hr := (rows_take c j hj hn hn') $$ Hr
  icases Hr with ⟨Hp, Hr⟩
  iapply (step_block m ρ c (peer c j) ho hp) $$ Hx Hp; iintro Hx Hp
  iapply (step_scatter m ρ K c j hj hn hn' hd hoff hoff' hS hR) $$ HR HS Hp; iintro HS
  iapply Hk $$ Hx Hr HS

end Cert.AllPairs

end
-- ==== Proof.Pieces.lean ====
/-
# `Pieces`: the exchange's buffers, whole and in pieces

Each scratch buffer is cut in eight along its leading axis. Here a buffer held whole is its eight pieces, at a given
share and with given contents, and a piece at the full share is its eight shares.
-/
module

public import proofs.«01_k».proof.Proof.Common
public import Idealize.ShloMosaic.Lib.ViewIndex

@[expose] public section

noncomputable section

namespace Cert.AllPairs

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

/-! ## Where the pieces lie -/

theorem rows_disjoint (a b : Fin 8) (h : a ≠ b) : Disjoint (rowRect a).set (rowRect b).set :=
  Ring.lead_disjoint (s := S512x512) (0 : Fin 2) 64 rowOff S64x512.size rowOff_inb (fun _ => rfl) rfl a b h
theorem rows_cover : Finset.univ.biUnion (fun b : Fin 8 => (rowRect b).set) = Finset.univ :=
  Ring.lead_cover (s := S512x512) (0 : Fin 2) 64 rowOff S64x512.size rowOff_inb (fun _ => rfl) (by decide) rfl (by decide) rfl
theorem slots_disjoint (a b : Fin 8) (h : a ≠ b) : Disjoint (slotRect a).set (slotRect b).set :=
  Ring.lead_disjoint (s := S8x64x512) (0 : Fin 3) 1 slotOff S1x64x512.size slotOff_inb (fun b => (Nat.one_mul b.val).symm) rfl a b h
theorem slots_cover : Finset.univ.biUnion (fun b : Fin 8 => (slotRect b).set) = Finset.univ :=
  Ring.lead_cover (s := S8x64x512) (0 : Fin 3) 1 slotOff S1x64x512.size slotOff_inb (fun b => (Nat.one_mul b.val).symm) (by decide) rfl (by decide) rfl

theorem pRows_set (q : Fin 8) : (pRows q).view.set = (rowRect q).set := View.set_slice_whole _ _
theorem gRows_set (q : Fin 8) : (gRows q).view.set = (rowRect q).set := View.set_slice_whole _ _
theorem rSlot_set (q : Fin 8) : (rSlot q).view.set = (slotRect q).set := (View.set_reshape _ _).trans (View.set_slice_whole _ _)

/-! ## What the pieces of the landing buffer and of the result hold -/

theorem rSlot_landed (c : Dev nD) (q : Fin 8) : (rSlot q).view.read (Elt F) (landed m ρ c) = part m ρ q c := by
  funext x
  have e : Shape.reshapeEquiv squeezes_S1x64x512_S64x512.numel_eq x = ix3 (⟨0, Nat.one_pos⟩ : Fin 1) (x 0) (x 1) :=
    (congrArg _ (eq_ix2 x)).trans (reshapeEquiv_ix2_1ab _ (x 0) (x 1))
  have h1 : (rSlot q).view.read (Elt F) (landed m ρ c) x
      = landed m ρ c ((slotRect q).emb (Shape.reshapeEquiv squeezes_S1x64x512_S64x512.numel_eq x)) := rfl
  have h2 : ((slotRect q).emb (ix3 (⟨0, Nat.one_pos⟩ : Fin 1) (x 0) (x 1))) = ix3 q (x 0) (x 1) :=
    Shape.idx3_ext (by show q.val + 1 * 0 = q.val; omega) (by show 0 + 1 * (x 0).val = (x 0).val; omega) (by show 0 + 1 * (x 1).val = (x 1).val; omega)
  exact h1.trans ((congrArg (fun y => landed m ρ c ((slotRect q).emb y)) e).trans ((congrArg (landed m ρ c) h2).trans (congrArg (part m ρ q c) (eq_ix2 x).symm)))

theorem gRows_gathered (q : Fin 8) : (gRows q).view.read (Elt F) (gathered m ρ) = summed m ρ q := by
  funext x
  have h1 : (gRows q).view.read (Elt F) (gathered m ρ) x = gathered m ρ ((rowRect q).emb x) := rfl
  have hx : (x 0).val < 64 := (x 0).isLt
  have e0 : ((rowRect q).emb x 0).val = 64 * q.val + (x 0).val := by show 64 * q.val + 1 * (x 0).val = 64 * q.val + (x 0).val; omega
  have e1 : (rowRect q).emb x 1 = x 1 := Fin.ext (by show 0 + 1 * (x 1).val = (x 1).val; omega)
  rw [h1]; unfold gathered
  have d1 : (⟨((rowRect q).emb x 0).val / 64, by rw [e0]; omega⟩ : Fin 8) = q := Fin.ext (by rw [show (⟨((rowRect q).emb x 0).val / 64, _⟩ : Fin 8).val = ((rowRect q).emb x 0).val / 64 from rfl, e0]; omega)
  have d2 : (⟨((rowRect q).emb x 0).val % 64, Nat.mod_lt _ (by decide)⟩ : Fin 64) = x 0 := Fin.ext (by rw [show (⟨((rowRect q).emb x 0).val % 64, _⟩ : Fin 64).val = ((rowRect q).emb x 0).val % 64 from rfl, e0]; omega)
  rw [d1]
  refine congrArg (summed m ρ q) (Eq.trans ?_ (eq_ix2 x).symm)
  rw [e1]
  exact congrArg (fun a => ix2 a (x 1)) d2

/-! ## Pieces of known contents -/

omit [FloatOps F] in
/-- A piece read as `X` is the piece at any one contents that read so. -/
theorem holds_eq (c : Dev nD) {s : Shape} {e : EltTy} (M : Memref sig .tc .vmem s e) (q : PosShare TreeShare) {X : s.Idx → Elt F e}
    {f : Buf (Elt F) (M.view.loc (c : Thread nD τ))} (h : M.view.read (Elt F) f = X) :
    holds c M q X = (M.view.loc (c : Thread nD τ) ↦[M.view.set]{q} f : sProp 𝕄) := by
  refine BI.Entails.antisymm ?_ ?_
  · show (_ : sProp 𝕄) ⊢ _
    unfold holds
    iintro ⟨%g, %hg, H⟩
    rw [pointsTo_congr (g := f) fun i hi => by
      obtain ⟨x, -, rfl⟩ := Finset.mem_map.mp hi
      exact View.eq_of_read_eq (congrFun (hg.trans h.symm) x)]
    exact BI.Entails.refl _
  · show (_ : sProp 𝕄) ⊢ _
    unfold holds
    iintro H; iexists f
    isplitr [H]
    · ipureintro; exact h
    · iexact H

omit [FloatOps F] in
/-- A piece of known contents is a piece. -/
theorem some_of_holds (c : Dev nD) {s : Shape} {e : EltTy} (M : Memref sig .tc .vmem s e) (X : s.Idx → Elt F e) :
    holds c M fullShare X ⊢ some' c M := by
  unfold holds some'; iintro ⟨%f, -, H⟩; iexists f; iexact H

/-- The landing buffer, all arrived. -/
theorem landed_eq (c : Dev nD) :
    bigSep Finset.univ (fun q : Fin 8 => holds c (rSlot q) fullShare (part m ρ q c))
      = (((c : Thread nD τ).loc cc0_scratch2) ↦{fullShare} landed m ρ c : sProp 𝕄) := by
  rw [Ring.pointsTo_blocks (ℓ := (c : Thread nD τ).loc cc0_scratch2) (fun q : Fin 8 => (slotRect q).set) slots_disjoint slots_cover]
  exact bigSep_congr fun q _ => by rw [holds_eq c (rSlot q) fullShare (rSlot_landed m ρ c q), rSlot_set]

/-- The result's buffer, all arrived, at a share. -/
theorem gathered_eq (c : Dev nD) (sh : PosShare TreeShare) :
    bigSep Finset.univ (fun q : Fin 8 => holds c (gRows q) sh (summed m ρ q))
      = (((c : Thread nD τ).loc cc0_scratch1) ↦{sh} gathered m ρ : sProp 𝕄) := by
  rw [Ring.pointsTo_blocks (ℓ := (c : Thread nD τ).loc cc0_scratch1) (fun q : Fin 8 => (rowRect q).set) rows_disjoint rows_cover]
  exact bigSep_congr fun q _ => by rw [holds_eq c (gRows q) sh (gRows_gathered m ρ q), gRows_set]

/-- Rows of the result at the full share are the eight shares of them. -/
theorem rows_shares (c : Dev nD) (q : Fin 8) :
    holds c (gRows q) fullShare (summed m ρ q) = (bigSep Finset.univ fun i : Fin 8 => holds c (gRows q) (lent i) (summed m ρ q) : sProp 𝕄) := by
  rw [holds_eq c (gRows q) fullShare (gRows_gathered m ρ q), ShareLeaves.pointsTo_leaves _ _ 3 fullShare]
  exact bigSep_congr fun i _ => (holds_eq c (gRows q) (lent i) (gRows_gathered m ρ q)).symm

/-! ## Pieces of any contents -/

omit [FloatOps F] in
theorem p_split (c : Dev nD) :
    iprop(∃ f : Buf (Elt F) ((c : Thread nD τ).loc cc0_scratch0), ((c : Thread nD τ).loc cc0_scratch0) ↦{fullShare} f)
      ⊢ (bigSep Finset.univ (fun q : Fin 8 => some' c (pRows q)) : sProp 𝕄) := by
  iintro ⟨%f, H⟩
  ihave H := (Entails.of_eq (Ring.pointsTo_blocks (ℓ := (c : Thread nD τ).loc cc0_scratch0) (fun q : Fin 8 => (rowRect q).set) rows_disjoint rows_cover f)) $$ H
  have h : (bigSep Finset.univ fun q : Fin 8 => ((c : Thread nD τ).loc cc0_scratch0) ↦[(rowRect q).set]{fullShare} f : sProp 𝕄)
      ⊢ bigSep Finset.univ (fun q : Fin 8 => some' c (pRows q)) :=
    bigSep_mono fun q _ => by
      show (_ : sProp 𝕄) ⊢ _
      unfold some'; rw [pRows_set]; iintro H; iexists f; iexact H
  iapply h; iexact H

omit [FloatOps F] in
theorem g_split (c : Dev nD) :
    iprop(∃ f : Buf (Elt F) ((c : Thread nD τ).loc cc0_scratch1), ((c : Thread nD τ).loc cc0_scratch1) ↦{fullShare} f)
      ⊢ (bigSep Finset.univ (fun q : Fin 8 => some' c (gRows q)) : sProp 𝕄) := by
  iintro ⟨%f, H⟩
  ihave H := (Entails.of_eq (Ring.pointsTo_blocks (ℓ := (c : Thread nD τ).loc cc0_scratch1) (fun q : Fin 8 => (rowRect q).set) rows_disjoint rows_cover f)) $$ H
  have h : (bigSep Finset.univ fun q : Fin 8 => ((c : Thread nD τ).loc cc0_scratch1) ↦[(rowRect q).set]{fullShare} f : sProp 𝕄)
      ⊢ bigSep Finset.univ (fun q : Fin 8 => some' c (gRows q)) :=
    bigSep_mono fun q _ => by
      show (_ : sProp 𝕄) ⊢ _
      unfold some'; rw [gRows_set]; iintro H; iexists f; iexact H
  iapply h; iexact H

omit [FloatOps F] in
theorem r_split (c : Dev nD) :
    iprop(∃ f : Buf (Elt F) ((c : Thread nD τ).loc cc0_scratch2), ((c : Thread nD τ).loc cc0_scratch2) ↦{fullShare} f)
      ⊢ (bigSep Finset.univ (fun q : Fin 8 => some' c (rSlot q)) : sProp 𝕄) := by
  iintro ⟨%f, H⟩
  ihave H := (Entails.of_eq (Ring.pointsTo_blocks (ℓ := (c : Thread nD τ).loc cc0_scratch2) (fun q : Fin 8 => (slotRect q).set) slots_disjoint slots_cover f)) $$ H
  have h : (bigSep Finset.univ fun q : Fin 8 => ((c : Thread nD τ).loc cc0_scratch2) ↦[(slotRect q).set]{fullShare} f : sProp 𝕄)
      ⊢ bigSep Finset.univ (fun q : Fin 8 => some' c (rSlot q)) :=
    bigSep_mono fun q _ => by
      show (_ : sProp 𝕄) ⊢ _
      unfold some'; rw [rSlot_set]; iintro H; iexists f; iexact H
  iapply h; iexact H

omit [FloatOps F] in
/-- The buffer the blocks were sent from, whole again. -/
theorem p_join (c : Dev nD) :
    (bigSep Finset.univ (fun q : Fin 8 => some' c (pRows q)) : sProp 𝕄)
      ⊢ iprop(∃ f : Buf (Elt F) ((c : Thread nD τ).loc cc0_scratch0), ((c : Thread nD τ).loc cc0_scratch0) ↦{fullShare} f) := by
  rw [all_eq (0 : Fin 8) fun q => some' (F := F) c (pRows q), show some' (F := F) c (pRows 0)
    = iprop(∃ f : Buf (Elt F) ((pRows 0).view.loc (c : Thread nD τ)), (pRows 0).view.loc (c : Thread nD τ) ↦[(pRows 0).view.set]{fullShare} f) from rfl]
  iintro ⟨⟨%f, H0⟩, H⟩
  have h : iprop((∃ f : Buf (Elt F) ((pRows 0).view.loc (c : Thread nD τ)), (pRows 0).view.loc (c : Thread nD τ) ↦[(pRows 0).view.set]{fullShare} f)
      ∗ bigSep Finset.univ (oth (0 : Fin 8) fun q => some' (F := F) c (pRows q)))
      ⊢ (bigSep Finset.univ (fun q : Fin 8 => iprop(∃ f : Buf (Elt F) ((c : Thread nD τ).loc cc0_scratch0), ((c : Thread nD τ).loc cc0_scratch0) ↦[(rowRect q).set]{fullShare} f)) : sProp 𝕄) := by
    refine (Entails.of_eq (all_eq (0 : Fin 8) fun q => some' (F := F) c (pRows q)).symm).trans ?_
    exact bigSep_mono fun q _ => by
      show (_ : sProp 𝕄) ⊢ _
      unfold some'; rw [pRows_set]
  iapply (Ring.pointsTo_blocks_join_exists (ℓ := (c : Thread nD τ).loc cc0_scratch0) (fun q : Fin 8 => (rowRect q).set) rows_disjoint rows_cover f)
  iapply h
  isplitl [H0]
  · iexists f; iexact H0
  · iexact H

end Cert.AllPairs

end
-- ==== Proof.Phases.lean ====
/-
# `Phases`: from one phase of the exchange to the next

What a finished phase leaves is regrouped into what the next one starts from.
-/
module

public import proofs.«01_k».proof.Proof.Steps
public import proofs.«01_k».proof.Proof.Pieces

@[expose] public section

noncomputable section

namespace Cert.AllPairs

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (c : Dev nD)

omit [FloatOps F] in
theorem oth_sep (A B : Fin 8 → sProp 𝕄) :
    bigSep Finset.univ (oth c fun q => iprop(A q ∗ B q)) = iprop(bigSep Finset.univ (oth c A) ∗ bigSep Finset.univ (oth c B)) := by
  rw [← bigSep_sep']
  refine bigSep_congr fun q _ => ?_
  by_cases h : q = c
  · subst h; simp only [oth_self]; exact (emp_sep_eq (P := (iprop(emp) : sProp 𝕄))).symm
  · simp only [oth_ne h]

omit [FloatOps F] in
/-- A family over the peers in the order they are served. -/
theorem oth_order (A : Fin 8 → sProp 𝕄) : bigSep Finset.univ (oth c A) = From 0 (fun j => oth c A (peer c j)) := by
  rw [From_zero, bigSep_univ_equiv (peers c) (oth c A)]; rfl

omit [FloatOps F] in
/-- The last place in that order is the device's own, where there is nothing. -/
theorem Upto_order (A : Fin 8 → sProp 𝕄) : Upto 7 (fun j => oth c A (peer c j)) = bigSep Finset.univ (oth c A) := by
  have h := Upto_step (7 : Fin 8) fun j => oth c A (peer c j)
  rw [(peer_eq_self c 7).mpr rfl, oth_self] at h
  rw [bigSep_univ_equiv (peers c) (oth c A)]
  exact ((Upto_end fun j => oth c A (peer c j)).symm.trans (h.trans (emp_sep_eq _))).symm

omit [FloatOps F] in
/-- The ready signals, none sent: each hands over the landing slot and the landing rows for the device it goes to. -/
theorem signals_start :
    iprop(owing c (O₀ c) ∗ bigSep Finset.univ (oth c fun q => dutyTok ER (barCell q) 0 c)
        ∗ bigSep Finset.univ (oth c fun q => some' (F := F) c (rSlot q)) ∗ bigSep Finset.univ (oth c fun q => some' (F := F) c (gRows q)))
      ⊢ Signals c 0 := by
  unfold Signals barPay
  rw [From_zero, oth_sep c (fun q => dutyTok ER (barCell q) 0 c) (fun q => iprop(some' (F := F) c (rSlot q) ∗ some' (F := F) c (gRows q))),
    oth_sep c (fun q => some' (F := F) c (rSlot q)) (fun q => some' (F := F) c (gRows q))]

omit [FloatOps F] in
theorem signals_done : (Signals c 8 : sProp 𝕄) ⊢ owing c (owedSc c 0) := by
  unfold Signals; rw [owedBar_end, From_end]; iintro ⟨H, -⟩; iexact H

omit [FloatOps F] in
/-- The scatter, nothing sent yet. -/
theorem scatter_start :
    iprop(owing c (owedSc c 0) ∗ bigSep Finset.univ (oth c fun q => dutyTok ER (xCell 0 c q) 0 0) ∗ bigSep Finset.univ (oth c fun q => dutyTok ER (xCell 1 q c) 0 0)
        ∗ bigSep Finset.univ (oth c fun q => some' (F := F) q (rSlot c)))
      ⊢ Scatter c 0 := by
  unfold Scatter
  rw [Upto_zero, ← oth_order c (scLeft c), show scLeft (F := F) c = fun q => iprop(dutyTok ER (xCell 0 c q) 0 0 ∗ dutyTok ER (xCell 1 q c) 0 0 ∗ some' q (rSlot c)) from rfl,
    oth_sep c (fun q => dutyTok ER (xCell 0 c q) 0 0) (fun q => iprop(dutyTok ER (xCell 1 q c) 0 0 ∗ some' (F := F) q (rSlot c))),
    oth_sep c (fun q => dutyTok ER (xCell 1 q c) 0 0) (fun q => some' (F := F) q (rSlot c))]
  iintro ⟨HO, H⟩
  isplitl [HO]; · iexact HO
  isplitl [H]; · iexact H
  iempintro

omit [FloatOps F] in
/-- The scatter's transfers all issued. -/
theorem scatter_sent :
    (Scatter c 7 : sProp 𝕄) ⊢ iprop(owing c (owedGa c 0) ∗ bigSep Finset.univ (oth c fun q => cred (tallyAt (xCell 0 c q) () N))) := by
  unfold Scatter
  rw [owedSc_end, Upto_order c fun q => cred (tallyAt (xCell 0 c q) () N)]
  iintro ⟨HO, -, H⟩
  isplitl [HO] <;> iassumption

/-- What is still due at a DMA cell: its credit and its place in the schedule. -/
def due (a : Fin 4) (q : Fin 8) : sProp 𝕄 := iprop(cred (tallyAt (xCell a c q) () N) ∗ atPos ER (xCell a c q) 0 ∅ 0)

/-- What a gather transfer to `q` needs besides its share of the rows. -/
def gaRoom (q : Fin 8) : sProp 𝕄 := iprop(dutyTok ER (xCell 2 c q) 0 0 ∗ dutyTok ER (xCell 3 q c) 0 0 ∗ some' q (gRows c))

/-- Waits in any order, none done. -/
theorem waiting_start (a : Fin 4) (e : Fin 8 ≃ Dev nD) {f : Fin 8 → Dev nD} (hf : ⇑e = f) (O : CellTallies nD τ sig Unit) :
    iprop(owing c O ∗ bigSep Finset.univ (oth c (due c a))) ⊢ Waiting m ρ c a f O 0 := by
  subst hf
  unfold Waiting
  rw [From_zero, Upto_zero, bigSep_univ_equiv e (oth c (due (F := F) c a))]
  iintro ⟨HO, H⟩
  isplitl [HO]; · iexact HO
  isplitl [H]; · iexact H
  iempintro

/-- All done. -/
theorem waiting_end (a : Fin 4) (e : Fin 8 ≃ Dev nD) {f : Fin 8 → Dev nD} (hf : ⇑e = f) (O : CellTallies nD τ sig Unit) :
    Waiting m ρ c a f O 8 ⊢ iprop(owing c O ∗ bigSep Finset.univ (oth c (xPay m ρ a c)) ∗ bigSep Finset.univ (oth c fun q => atPos ER (xCell a c q) 1 ∅ 0)) := by
  subst hf
  unfold Waiting
  rw [From_end, Upto_end, ← oth_sep c (xPay m ρ a c) (fun q => atPos ER (xCell a c q) 1 ∅ 0),
    bigSep_univ_equiv e (oth c fun q => iprop(xPay m ρ a c q ∗ atPos ER (xCell a c q) 1 ∅ 0))]
  iintro ⟨HO, -, H⟩
  isplitl [HO] <;> iassumption

/-- The last place in the order of service is the device itself, where nothing is waited for. -/
theorem waiting_last (a : Fin 4) (O : CellTallies nD τ sig Unit) : Waiting m ρ c a (peer c) O 7 ⊢ Waiting m ρ c a (peer c) O 8 := by
  unfold Waiting
  have h : peer c 7 = c := (peer_eq_self c 7).mpr rfl
  have hF := From_step (F := F) (7 : Fin 8) fun j => oth c (fun q => iprop(cred (tallyAt (xCell a c q) () N) ∗ atPos ER (xCell a c q) 0 ∅ 0)) (peer c j)
  have hU := Upto_step (7 : Fin 8) fun j => oth c (fun q => iprop(xPay m ρ a c q ∗ atPos ER (xCell a c q) 1 ∅ 0)) (peer c j)
  simp only [h, oth_self] at hF hU
  change From 7 _ = iprop(_ ∗ From 8 _) at hF
  change Upto 8 _ = iprop(_ ∗ Upto 7 _) at hU
  iintro ⟨HO, Hr, H⟩
  isplitl [HO]; · iexact HO
  isplitl [Hr]
  · ihave Hr := (Entails.of_eq hF) $$ Hr
    icases Hr with ⟨-, Hr⟩
    iexact Hr
  · iapply (Entails.of_eq hU.symm)
    isplitr; · iempintro
    iexact H

/-- The scatter has landed: the landing buffer whole. -/
theorem scatter_done :
    iprop(holds c (rSlot c) fullShare (part m ρ c c) ∗ Waiting m ρ c 1 id (owedGa c 0) 8)
      ⊢ iprop(owing c (owedGa c 0) ∗ (((c : Thread nD τ).loc cc0_scratch2) ↦{fullShare} landed m ρ c)
          ∗ bigSep Finset.univ (oth c fun q => atPos ER (xCell 1 c q) 1 ∅ 0)) := by
  rw [← landed_eq m ρ c, all_eq c fun q : Fin 8 => holds c (rSlot q) fullShare (part m ρ q c)]
  iintro ⟨Hr, HW⟩
  ihave H := (waiting_end m ρ c 1 (Equiv.refl _) (f := id) rfl (owedGa c 0)) $$ HW
  icases H with ⟨HO, H, Hat⟩
  isplitl [HO]; · iexact HO
  isplitr [Hat]
  · isplitl [Hr]; · iexact Hr
    iexact H
  · iexact Hat

/-- The device's own rows dealt out to the gather's transfers, one share kept. -/
theorem gather_start :
    iprop(owing c (owedGa c 0) ∗ holds c (gRows c) fullShare (summed m ρ c) ∗ bigSep Finset.univ (oth c (gaRoom c)))
      ⊢ iprop(Gather m ρ c 0 ∗ holds c (gRows c) (lent c) (summed m ρ c)) := by
  unfold Gather
  rw [rows_shares m ρ c c, all_eq c fun i : Fin 8 => holds c (gRows c) (lent i) (summed m ρ c), From_zero, Upto_zero]
  have e : bigSep Finset.univ (oth c (gaLeft m ρ c))
      = iprop(bigSep Finset.univ (oth c (gaRoom c)) ∗ bigSep Finset.univ (oth c fun i : Fin 8 => holds c (gRows c) (lent i) (summed m ρ c))) := by
    rw [← oth_sep]
    refine congrArg _ (congrArg _ (funext fun q => ?_))
    unfold gaLeft gaRoom
    refine BI.Entails.antisymm ?_ ?_
    · show (_ : sProp 𝕄) ⊢ _
      iintro ⟨H1, H2, H3, H4⟩
      isplitr [H4]
      · isplitl [H1]; · iexact H1
        isplitl [H2] <;> iassumption
      · iexact H4
    · show (_ : sProp 𝕄) ⊢ _
      iintro ⟨⟨H1, H2, H3⟩, H4⟩
      isplitl [H1]; · iexact H1
      isplitl [H2]; · iexact H2
      isplitl [H3] <;> iassumption
  rw [e]
  iintro ⟨HO, ⟨Hk, Hl⟩, Hr⟩
  isplitr [Hk]
  · isplitl [HO]; · iexact HO
    isplitr []
    · isplitl [Hr] <;> iassumption
    · iempintro
  · iexact Hk

/-- The gather's transfers all issued: nothing is owed any more. -/
theorem gather_sent :
    Gather m ρ c 8 ⊢ iprop(owing c 0 ∗ bigSep Finset.univ (oth c fun q => cred (tallyAt (xCell 2 c q) () N))) := by
  unfold Gather
  rw [owedGa_end, From_end, Upto_end]
  iintro ⟨HO, -, H⟩
  isplitl [HO] <;> iassumption

/-- The shares of the gathered rows that the device does not read from. -/
def spare : sProp 𝕄 :=
  bigSep Finset.univ (oth c fun q => bigSep Finset.univ (oth c fun i => holds c (gRows q) (lent i) (summed m ρ q)))

omit [FloatOps F] in
/-- The room for the gather, from its parts. -/
theorem room_eq :
    bigSep Finset.univ (oth c (gaRoom (F := F) c))
      = iprop(bigSep Finset.univ (oth c fun q => dutyTok ER (xCell 2 c q) 0 0) ∗ bigSep Finset.univ (oth c fun q => dutyTok ER (xCell 3 q c) 0 0)
        ∗ bigSep Finset.univ (oth c fun q => some' (F := F) q (gRows c))) := by
  rw [← oth_sep, ← oth_sep]; rfl

omit [FloatOps F] in
/-- What is due at the cells of one array, from its parts. -/
theorem due_eq (a : Fin 4) :
    bigSep Finset.univ (oth c (due (F := F) c a))
      = iprop(bigSep Finset.univ (oth c fun q => cred (tallyAt (xCell a c q) () N)) ∗ bigSep Finset.univ (oth c fun q => atPos ER (xCell a c q) 0 ∅ 0)) := by
  rw [← oth_sep]; rfl

/-- The gather has landed: the whole result at one share. -/
theorem gather_done :
    iprop(holds c (gRows c) (lent c) (summed m ρ c) ∗ Waiting m ρ c 3 id 0 8)
      ⊢ iprop(owing c 0 ∗ (((c : Thread nD τ).loc cc0_scratch1) ↦{lent c} gathered m ρ) ∗ spare m ρ c
          ∗ bigSep Finset.univ (oth c fun q => atPos ER (xCell 3 c q) 1 ∅ 0)) := by
  rw [← gathered_eq m ρ c (lent c), all_eq c fun q : Fin 8 => holds c (gRows q) (lent c) (summed m ρ q)]
  have e : bigSep Finset.univ (oth c (xPay m ρ 3 c))
      = iprop(bigSep Finset.univ (oth c fun q : Fin 8 => holds c (gRows q) (lent c) (summed m ρ q)) ∗ spare m ρ c) := by
    unfold spare
    rw [← oth_sep]
    refine congrArg _ (congrArg _ (funext fun q => ?_))
    exact (rows_shares m ρ c q).trans (all_eq c fun i : Fin 8 => holds c (gRows q) (lent i) (summed m ρ q))
  iintro ⟨Hg, HW⟩
  ihave H := (waiting_end m ρ c 3 (Equiv.refl _) (f := id) rfl 0) $$ HW
  icases H with ⟨HO, H, Hat⟩
  ihave H := (Entails.of_eq e) $$ H
  icases H with ⟨H, Hs⟩
  isplitl [HO]; · iexact HO
  isplitr [Hs Hat]
  · isplitl [Hg] <;> iassumption
  · isplitl [Hs] <;> iassumption

/-- With the lent shares back, the result's buffer is whole again. -/
theorem gather_back :
    iprop((((c : Thread nD τ).loc cc0_scratch1) ↦{lent c} gathered m ρ) ∗ spare m ρ c
        ∗ bigSep Finset.univ (oth c fun i => holds c (gRows c) (lent i) (summed m ρ c)))
      ⊢ iprop(∃ f : Buf (Elt F) ((c : Thread nD τ).loc cc0_scratch1), ((c : Thread nD τ).loc cc0_scratch1) ↦{fullShare} f) := by
  have e : (((c : Thread nD τ).loc cc0_scratch1) ↦{fullShare} gathered m ρ : sProp 𝕄)
      = iprop((((c : Thread nD τ).loc cc0_scratch1) ↦{lent c} gathered m ρ)
        ∗ bigSep Finset.univ (oth c fun i => holds c (gRows c) (lent i) (summed m ρ c)) ∗ spare m ρ c) := by
    rw [← gathered_eq m ρ c fullShare, ← gathered_eq m ρ c (lent c)]
    unfold spare
    rw [← all_eq c fun q : Fin 8 => bigSep Finset.univ (oth c fun i => holds c (gRows q) (lent i) (summed m ρ q)), ← bigSep_sep']
    exact bigSep_congr fun q _ => (rows_shares m ρ c q).trans (all_eq c fun i : Fin 8 => holds c (gRows q) (lent i) (summed m ρ q))
  iintro ⟨H1, H2, H3⟩
  iexists gathered m ρ
  iapply (Entails.of_eq e.symm)
  isplitl [H1]; · iexact H1
  isplitl [H3] <;> iassumption

/-- The scatter's sends all complete: the rows they were sent from are back. -/
theorem scatter_back :
    Waiting m ρ c 0 (peer c) 0 7
      ⊢ iprop(owing c 0 ∗ bigSep Finset.univ (oth c fun q => some' (F := F) c (pRows q)) ∗ bigSep Finset.univ (oth c fun q => atPos ER (xCell 0 c q) 1 ∅ 0)) :=
  (waiting_last m ρ c 0 0).trans (waiting_end m ρ c 0 (peers c) rfl 0)

/-- The whole result stored. -/
theorem step_storeOut {α : Type} {k : Prog (TpuEff nD τ sig (Elt F) Λ₀ .tc) α} {Q : α → sProp (MT nD τ sig Unit (Elt F) ℕ UU ℕ)}
    {z : Fin 2 → Nat} (hz : z = fun _ => 0) {inb : ∀ a, z a + S512x512.size a ≤ S512x512.size a} {hs hm}
    {f : Buf (Elt F) ((c : Thread nD τ).loc cc0_stg3_0)} :
    (((c : Thread nD τ).loc cc0_stg3_0) ↦{fullShare} f)
      ⊢ iprop(((((c : Thread nD τ).loc cc0_stg3_0) ↦{fullShare} outAll m ρ) -∗ wpc c k Q)
          -∗ wpc c (Prog.lift (.store oM (Rect.unit (s := S512x512) z S512x512.size inb) (k0_pay12 (gathered m ρ)) Finset.univ hs hm) >>= fun _ => k) Q) := by
  simp only [Prog.bind_lift]
  iintro H Hk
  iapply (wp_store 𝒱₀ (c : Thread nD τ) none Set.univ (m := oM) (r := Rect.unit (s := S512x512) z S512x512.size inb) (S := Finset.univ) (Mk := Finset.univ) (Finset.subset_univ _)) $$ H; iintro H
  rw [show (oM.access (Rect.unit (s := S512x512) z S512x512.size inb)).write (Elt F) f (k0_pay12 (gathered m ρ)) Finset.univ = outAll m ρ from
    Memref.write_access_unit_zero_univ (Elt F) cc0_stg3_0 hz _ _ _]
  iapply Hk; iexact H

end Cert.AllPairs

end
-- ==== Proof.Body.lean ====
/-
# `Body`: the kernel's body on one device, part by part
-/
module

public import proofs.«01_k».proof.Proof.Phases
public import proofs.«01_k».proof.Proof.Pieces

@[expose] public section

noncomputable section

namespace Cert.AllPairs

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Cells → ℕ) (c : Dev nD)

/-- Device `c`'s place on the ring, as the kernel computes it. -/
def pos (c : Dev nD) : BitVec 32 := Scalar.remsi (Scalar.divsi (Dev.word c) 1#32) 8#32

/-- The staged blocks of the two weights. -/
def w1Pts : sProp 𝕄 := ((c : Thread nD τ).loc cc0_stg1_0) ↦{fullShare} w1stg m ρ c
def w2Pts : sProp 𝕄 := ((c : Thread nD τ).loc cc0_stg2_0) ↦{fullShare} w2stg m ρ c

/-- The device's own partial product, in the shape its slot is stored in. -/
theorem pay10_own : k0_pay10 (k0_pay1 (w1stg m ρ c)) (k0_pay2 (w2stg m ρ c)) (xRows m ρ c c)
    = shapeCast S1x64x512 (part m ρ c c) shapeCasts_S64x512_S1x64x512 := by
  unfold part k0_pay10 k0_pay4
  exact congrArg (fun v => shapeCast S1x64x512 v shapeCasts_S64x512_S1x64x512) (shapeCast_self _ shapeCasts_S64x512_S64x512).symm

theorem body_part1 {Q : _ → sProp (MT nD τ sig Unit (Elt F) ℕ UU ℕ)} :
    records m ρ K
      ⊢ iprop(Signals c 0 -∗ w1Pts m ρ c
          -∗ (Signals c 8 -∗ w1Pts m ρ c -∗ Q ⟨c, pos c, Scalar.muli (pos c) 64#32, SemArray.scalar (sig.barrier 0 rfl), w1stg m ρ c⟩)
          -∗ wpc c (k0_part1 xM (Memref.isWhole_whole _) w1M (Memref.isWhole_whole _) w2M (Memref.isWhole_whole _) oM (Memref.isWhole_whole _)
            pM (Memref.isWhole_whole _) gM (Memref.isWhole_whole _) rM (Memref.isWhole_whole _) cc0_scratch3 cc0_scratch4 cc0_scratch5 cc0_scratch6) Q) := by
  rw [k0_part1_eq_skeleton]; unfold k0_part1_skel pos
  iintro #HR HS Hw Hk
  iapply (step_deviceId c); beta_reduce
  iapply (step_signal m ρ K c 0 (n := 0) (n' := 1) rfl rfl (by revert c; decide) (fun h => Fin.ext rfl)) $$ HR HS; iintro HS; beta_reduce
  iapply (step_signal m ρ K c 1 (n := 1) (n' := 2) rfl rfl (by revert c; decide) (fun h => Fin.ext rfl)) $$ HR HS; iintro HS; beta_reduce
  iapply (step_signal m ρ K c 2 (n := 2) (n' := 3) rfl rfl (by revert c; decide) (fun h => Fin.ext rfl)) $$ HR HS; iintro HS; beta_reduce
  iapply (step_signal m ρ K c 3 (n := 3) (n' := 4) rfl rfl (by revert c; decide) (fun h => Fin.ext rfl)) $$ HR HS; iintro HS; beta_reduce
  iapply (step_signal m ρ K c 4 (n := 4) (n' := 5) rfl rfl (by revert c; decide) (fun h => Fin.ext rfl)) $$ HR HS; iintro HS; beta_reduce
  iapply (step_signal m ρ K c 5 (n := 5) (n' := 6) rfl rfl (by revert c; decide) (fun h => Fin.ext rfl)) $$ HR HS; iintro HS; beta_reduce
  iapply (step_signal m ρ K c 6 (n := 6) (n' := 7) rfl rfl (by revert c; decide) (fun h => Fin.ext rfl)) $$ HR HS; iintro HS; beta_reduce
  iapply (step_signal m ρ K c 7 (n := 7) (n' := 8) rfl rfl (by revert c; decide) (fun h => Fin.ext rfl)) $$ HR HS; iintro HS; beta_reduce
  unfold w1Pts
  iapply (step_load c w1M (Memref.readAt_unit_zero (Elt F) cc0_stg1_0 (by decide) _ _)) $$ Hw; iintro Hw
  iapply step_pure
  iapply Hk $$ HS Hw

theorem body_part2 {Q : _ → sProp (MT nD τ sig Unit (Elt F) ℕ UU ℕ)} (v2 : BitVec 32) :
    records m ρ K
      ⊢ iprop(levAts L lv -∗ w2Pts m ρ c -∗ xPts m ρ c -∗ Rows c 0 -∗ owing c (owedSc c 0) -∗ cred (tallyAt (barCell c) () 7) -∗ atPos ER (barCell c) 0 ∅ 0
          -∗ (w2Pts m ρ c -∗ xPts m ρ c -∗ Rows c 1 -∗ holds c (pRows (peer c 0)) fullShare (part m ρ c (peer c 0)) -∗ owing c (owedSc c 0)
              -∗ atPos ER (barCell c) 1 ∅ 0 -∗ bigSep Finset.univ (oth c fun d => barPay c d)
              -∗ Q ⟨k0_pay1 (w1stg m ρ c), k0_pay2 (w2stg m ρ c)⟩)
          -∗ wpc c (k0_part2 xM (Memref.isWhole_whole _) w1M (Memref.isWhole_whole _) w2M (Memref.isWhole_whole _) oM (Memref.isWhole_whole _)
            pM (Memref.isWhole_whole _) gM (Memref.isWhole_whole _) rM (Memref.isWhole_whole _) cc0_scratch3 cc0_scratch4 cc0_scratch5 cc0_scratch6
            c v2 (SemArray.scalar (sig.barrier 0 rfl)) (w1stg m ρ c)) Q) := by
  rw [k0_part2_eq_skeleton]; unfold k0_part2_skel
  iintro #HR #HL Hw Hx Hr HO Hc Hat Hk
  unfold w2Pts
  iapply (step_load c w2M (Memref.readAt_unit_zero (Elt F) cc0_stg2_0 (by decide) _ _)) $$ Hw; iintro Hw
  beta_reduce
  ihave Hr := (rows_take c 0 (n := 0) (n' := 1) (by decide) rfl rfl) $$ Hr
  icases Hr with ⟨Hp, Hr⟩
  iapply (step_block m ρ c (peer c 0) (by revert c; decide) (by rfl)) $$ Hx Hp; iintro Hx Hp
  beta_reduce
  iapply (step_ready m ρ K c) $$ HR HL HO Hc Hat; iintro HO Hat Hb
  iapply step_pure
  iapply Hk $$ Hw Hx Hr Hp HO Hat Hb

theorem body_part3 {Q : _ → sProp (MT nD τ sig Unit (Elt F) ℕ UU ℕ)} (v2 : BitVec 32) :
    records m ρ K
      ⊢ iprop(xPts m ρ c -∗ Rows c 1 -∗ Scatter c 0 -∗ holds c (pRows (peer c 0)) fullShare (part m ρ c (peer c 0))
          -∗ (xPts m ρ c -∗ Rows c 2 -∗ Scatter c 2 -∗ Q ⟨⟩)
          -∗ wpc c (k0_part3 xM (Memref.isWhole_whole _) w1M (Memref.isWhole_whole _) w2M (Memref.isWhole_whole _) oM (Memref.isWhole_whole _)
            pM (Memref.isWhole_whole _) gM (Memref.isWhole_whole _) rM (Memref.isWhole_whole _) cc0_scratch3 cc0_scratch4 cc0_scratch5 cc0_scratch6
            c v2 (k0_pay1 (w1stg m ρ c)) (k0_pay2 (w2stg m ρ c))) Q) := by
  rw [k0_part3_eq_skeleton]; unfold k0_part3_skel
  iintro #HR Hx Hr HS Hp Hk
  iapply (step_scatter m ρ K c 0 (n := 0) (n' := 1) (by decide) rfl rfl (by revert c; decide) (by revert c; decide) (by revert c; decide) (by revert c; decide) (by revert c; decide)) $$ HR HS Hp; iintro HS
  beta_reduce
  iapply (step_relay m ρ K c 1 (n := 1) (n' := 2) (by decide) rfl rfl (by revert c; decide) (by revert c; decide) (by rfl) (by revert c; decide) (by revert c; decide) (by revert c; decide) (by revert c; decide)) $$ HR Hx Hr HS; iintro Hx Hr HS
  iapply step_pure
  iapply Hk $$ Hx Hr HS

theorem body_part4 {Q : _ → sProp (MT nD τ sig Unit (Elt F) ℕ UU ℕ)} (v2 : BitVec 32) :
    records m ρ K
      ⊢ iprop(xPts m ρ c -∗ Rows c 2 -∗ Scatter c 2 -∗ (∀ r, xPts m ρ c -∗ Rows c 3 -∗ Scatter c 3 -∗ Q r)
          -∗ wpc c (k0_part4 xM (Memref.isWhole_whole _) w1M (Memref.isWhole_whole _) w2M (Memref.isWhole_whole _) oM (Memref.isWhole_whole _)
            pM (Memref.isWhole_whole _) gM (Memref.isWhole_whole _) rM (Memref.isWhole_whole _) cc0_scratch3 cc0_scratch4 cc0_scratch5 cc0_scratch6
            c v2 (k0_pay1 (w1stg m ρ c)) (k0_pay2 (w2stg m ρ c))) Q) := by
  rw [k0_part4_eq_skeleton]; unfold k0_part4_skel
  iintro #HR Hx Hr HS Hk
  iapply (step_relay m ρ K c 2 (n := 2) (n' := 3) (by decide) rfl rfl (by revert c; decide) (by revert c; decide) (by rfl) (by revert c; decide) (by revert c; decide) (by revert c; decide) (by revert c; decide)) $$ HR Hx Hr HS; iintro Hx Hr HS
  iapply step_pure
  iapply Hk $$ Hx Hr HS

theorem body_part5 {Q : _ → sProp (MT nD τ sig Unit (Elt F) ℕ UU ℕ)} (v2 : BitVec 32) (v139 : BitVec 32) :
    records m ρ K
      ⊢ iprop(xPts m ρ c -∗ Rows c 3 -∗ Scatter c 3 -∗ (∀ r, xPts m ρ c -∗ Rows c 4 -∗ Scatter c 4 -∗ Q r)
          -∗ wpc c (k0_part5 xM (Memref.isWhole_whole _) w1M (Memref.isWhole_whole _) w2M (Memref.isWhole_whole _) oM (Memref.isWhole_whole _)
            pM (Memref.isWhole_whole _) gM (Memref.isWhole_whole _) rM (Memref.isWhole_whole _) cc0_scratch3 cc0_scratch4 cc0_scratch5 cc0_scratch6
            c v2 (k0_pay1 (w1stg m ρ c)) (k0_pay2 (w2stg m ρ c)) v139) Q) := by
  rw [k0_part5_eq_skeleton]; unfold k0_part5_skel
  iintro #HR Hx Hr HS Hk
  iapply (step_relay m ρ K c 3 (n := 3) (n' := 4) (by decide) rfl rfl (by revert c; decide) (by revert c; decide) (by rfl) (by revert c; decide) (by revert c; decide) (by revert c; decide) (by revert c; decide)) $$ HR Hx Hr HS; iintro Hx Hr HS
  iapply step_pure
  iapply Hk $$ Hx Hr HS

theorem body_part6 {Q : _ → sProp (MT nD τ sig Unit (Elt F) ℕ UU ℕ)} (v2 : BitVec 32) (v174 c8 : BitVec 32) (v175 : BitVec 1) (c1 : BitVec 32) :
    records m ρ K
      ⊢ iprop(xPts m ρ c -∗ Rows c 4 -∗ Scatter c 4 -∗ (∀ r, xPts m ρ c -∗ Rows c 5 -∗ Scatter c 5 -∗ Q r)
          -∗ wpc c (k0_part6 xM (Memref.isWhole_whole _) w1M (Memref.isWhole_whole _) w2M (Memref.isWhole_whole _) oM (Memref.isWhole_whole _)
            pM (Memref.isWhole_whole _) gM (Memref.isWhole_whole _) rM (Memref.isWhole_whole _) cc0_scratch3 cc0_scratch4 cc0_scratch5 cc0_scratch6
            c v2 (k0_pay1 (w1stg m ρ c)) (k0_pay2 (w2stg m ρ c)) v174 c8 v175 c1) Q) := by
  rw [k0_part6_eq_skeleton]; unfold k0_part6_skel
  iintro #HR Hx Hr HS Hk
  iapply (step_relay m ρ K c 4 (n := 4) (n' := 5) (by decide) rfl rfl (by revert c; decide) (by revert c; decide) (by rfl) (by revert c; decide) (by revert c; decide) (by revert c; decide) (by revert c; decide)) $$ HR Hx Hr HS; iintro Hx Hr HS
  iapply step_pure
  iapply Hk $$ Hx Hr HS

theorem body_part7 {Q : _ → sProp (MT nD τ sig Unit (Elt F) ℕ UU ℕ)} (v2 : BitVec 32) (v211 v212 : BitVec 32) (v213 : BitVec 1) :
    records m ρ K
      ⊢ iprop(xPts m ρ c -∗ Rows c 5 -∗ Scatter c 5 -∗ (∀ r, xPts m ρ c -∗ Rows c 6 -∗ Scatter c 6 -∗ Q r)
          -∗ wpc c (k0_part7 xM (Memref.isWhole_whole _) w1M (Memref.isWhole_whole _) w2M (Memref.isWhole_whole _) oM (Memref.isWhole_whole _)
            pM (Memref.isWhole_whole _) gM (Memref.isWhole_whole _) rM (Memref.isWhole_whole _) cc0_scratch3 cc0_scratch4 cc0_scratch5 cc0_scratch6
            c v2 (k0_pay1 (w1stg m ρ c)) (k0_pay2 (w2stg m ρ c)) v211 v212 v213) Q) := by
  rw [k0_part7_eq_skeleton]; unfold k0_part7_skel
  iintro #HR Hx Hr HS Hk
  iapply (step_relay m ρ K c 5 (n := 5) (n' := 6) (by decide) rfl rfl (by revert c; decide) (by revert c; decide) (by rfl) (by revert c; decide) (by revert c; decide) (by revert c; decide) (by revert c; decide)) $$ HR Hx Hr HS; iintro Hx Hr HS
  iapply step_pure
  iapply Hk $$ Hx Hr HS

theorem body_part8 {Q : _ → sProp (MT nD τ sig Unit (Elt F) ℕ UU ℕ)} (v2 : BitVec 32) (v246 v247 : BitVec 32) (v248 v249 v250 : BitVec 1) :
    records m ρ K
      ⊢ iprop(xPts m ρ c -∗ Rows c 6 -∗ Scatter c 6 -∗ (∀ r, xPts m ρ c -∗ Rows c 7 -∗ Scatter c 7 -∗ Q r)
          -∗ wpc c (k0_part8 xM (Memref.isWhole_whole _) w1M (Memref.isWhole_whole _) w2M (Memref.isWhole_whole _) oM (Memref.isWhole_whole _)
            pM (Memref.isWhole_whole _) gM (Memref.isWhole_whole _) rM (Memref.isWhole_whole _) cc0_scratch3 cc0_scratch4 cc0_scratch5 cc0_scratch6
            c v2 (k0_pay1 (w1stg m ρ c)) (k0_pay2 (w2stg m ρ c)) v246 v247 v248 v249 v250) Q) := by
  rw [k0_part8_eq_skeleton]; unfold k0_part8_skel
  iintro #HR Hx Hr HS Hk
  iapply (step_relay m ρ K c 6 (n := 6) (n' := 7) (by decide) rfl rfl (by revert c; decide) (by revert c; decide) (by rfl) (by revert c; decide) (by revert c; decide) (by revert c; decide) (by revert c; decide)) $$ HR Hx Hr HS; iintro Hx Hr HS
  iapply step_pure
  iapply Hk $$ Hx Hr HS

theorem body_part9 {Q : _ → sProp (MT nD τ sig Unit (Elt F) ℕ UU ℕ)} (v289 : BitVec 32) :
    records m ρ K
      ⊢ iprop(levAts L lv -∗ xPts m ρ c -∗ some' c (rSlot c) -∗ Waiting m ρ c 1 id (owedGa c 0) 0
          -∗ (xPts m ρ c -∗ holds c (rSlot c) fullShare (part m ρ c c) -∗ Waiting m ρ c 1 id (owedGa c 0) 6 -∗ Q (Scalar.cmpi .ne (pos c) 6#32))
          -∗ wpc c (k0_part9 xM (Memref.isWhole_whole _) w1M (Memref.isWhole_whole _) w2M (Memref.isWhole_whole _) oM (Memref.isWhole_whole _)
            pM (Memref.isWhole_whole _) gM (Memref.isWhole_whole _) rM (Memref.isWhole_whole _) cc0_scratch3 cc0_scratch4 cc0_scratch5 cc0_scratch6
            c (pos c) (k0_pay1 (w1stg m ρ c)) (k0_pay2 (w2stg m ρ c)) v289) Q) := by
  rw [k0_part9_eq_skeleton]; unfold k0_part9_skel
  iintro #HR #HL Hx Hr HW Hk
  iapply (step_own m ρ c (by revert c; decide) (by revert c; decide) (by exact pay10_own m ρ c)) $$ Hx Hr; iintro Hx Hr; beta_reduce
  iapply (step_waitIf m ρ K c 1 0 (n := 0) (n' := 1) (by revert c; decide) rfl rfl (l := 2) (by decide) (above_owedGa c 0) (by revert c; decide) (fun _ => by rfl)) $$ HR HL HW; iintro HW; beta_reduce
  iapply (step_waitIf m ρ K c 1 1 (n := 1) (n' := 2) (by revert c; decide) rfl rfl (l := 2) (by decide) (above_owedGa c 0) (by revert c; decide) (fun _ => by rfl)) $$ HR HL HW; iintro HW; beta_reduce
  iapply (step_waitIf m ρ K c 1 2 (n := 2) (n' := 3) (by revert c; decide) rfl rfl (l := 2) (by decide) (above_owedGa c 0) (by revert c; decide) (fun _ => by rfl)) $$ HR HL HW; iintro HW; beta_reduce
  iapply (step_waitIf m ρ K c 1 3 (n := 3) (n' := 4) (by revert c; decide) rfl rfl (l := 2) (by decide) (above_owedGa c 0) (by revert c; decide) (fun _ => by rfl)) $$ HR HL HW; iintro HW; beta_reduce
  iapply (step_waitIf m ρ K c 1 4 (n := 4) (n' := 5) (by revert c; decide) rfl rfl (l := 2) (by decide) (above_owedGa c 0) (by revert c; decide) (fun _ => by rfl)) $$ HR HL HW; iintro HW; beta_reduce
  iapply (step_waitIf m ρ K c 1 5 (n := 5) (n' := 6) (by revert c; decide) rfl rfl (l := 2) (by decide) (above_owedGa c 0) (by revert c; decide) (fun _ => by rfl)) $$ HR HL HW; iintro HW; beta_reduce
  iapply step_pure
  iapply Hk $$ Hx Hr HW

theorem body_part10 {Q : _ → sProp (MT nD τ sig Unit (Elt F) ℕ UU ℕ)} :
    records m ρ K
      ⊢ iprop(levAts L lv -∗ holds c (rSlot c) fullShare (part m ρ c c) -∗ some' c (gRows c) -∗ Waiting m ρ c 1 id (owedGa c 0) 6 -∗ bigSep Finset.univ (oth c (gaRoom c))
          -∗ (∀ r, (((c : Thread nD τ).loc cc0_scratch2) ↦{fullShare} landed m ρ c) -∗ holds c (gRows c) (lent c) (summed m ρ c)
              -∗ bigSep Finset.univ (oth c fun q => atPos ER (xCell 1 c q) 1 ∅ 0) -∗ Gather m ρ c 5 -∗ Q r)
          -∗ wpc c (k0_part10 xM (Memref.isWhole_whole _) w1M (Memref.isWhole_whole _) w2M (Memref.isWhole_whole _) oM (Memref.isWhole_whole _)
            pM (Memref.isWhole_whole _) gM (Memref.isWhole_whole _) rM (Memref.isWhole_whole _) cc0_scratch3 cc0_scratch4 cc0_scratch5 cc0_scratch6
            c (pos c) (Scalar.muli (pos c) 64#32) (Scalar.cmpi .ne (pos c) 6#32)) Q) := by
  rw [k0_part10_eq_skeleton]; unfold k0_part10_skel
  iintro #HR #HL Hr Hg HW Hroom Hk
  iapply (step_waitIf m ρ K c 1 6 (n := 6) (n' := 7) (by revert c; decide) rfl rfl (l := 2) (by decide) (above_owedGa c 0) (by revert c; decide) (fun _ => by rfl)) $$ HR HL HW; iintro HW; beta_reduce
  iapply (step_waitIf m ρ K c 1 7 (n := 7) (n' := 8) (by revert c; decide) rfl rfl (l := 2) (by decide) (above_owedGa c 0) (by revert c; decide) (fun _ => by rfl)) $$ HR HL HW; iintro HW; beta_reduce
  ihave H := (scatter_done m ρ c) $$ [Hr HW]
  · isplitl [Hr]; · iexact Hr
    iexact HW
  icases H with ⟨HO, Hr, Hat⟩
  iapply (step_sum m ρ c (by revert c; decide) (by decide)) $$ Hr Hg; iintro Hr Hg; beta_reduce
  ihave H := (gather_start m ρ c) $$ [HO Hg Hroom]
  · isplitl [HO]; · iexact HO
    isplitl [Hg]; · iexact Hg
    iexact Hroom
  icases H with ⟨HG, Hg⟩
  iapply (step_gather m ρ K c 0 (n := 0) (n' := 1) rfl rfl (by revert c; decide) (fun h => by revert c; decide) (by revert c; decide) (by revert c; decide) (fun h => by revert c; decide)) $$ HR HG; iintro HG; beta_reduce
  iapply (step_gather m ρ K c 1 (n := 1) (n' := 2) rfl rfl (by revert c; decide) (fun h => by revert c; decide) (by revert c; decide) (by revert c; decide) (fun h => by revert c; decide)) $$ HR HG; iintro HG; beta_reduce
  iapply (step_gather m ρ K c 2 (n := 2) (n' := 3) rfl rfl (by revert c; decide) (fun h => by revert c; decide) (by revert c; decide) (by revert c; decide) (fun h => by revert c; decide)) $$ HR HG; iintro HG; beta_reduce
  iapply (step_gather m ρ K c 3 (n := 3) (n' := 4) rfl rfl (by revert c; decide) (fun h => by revert c; decide) (by revert c; decide) (by revert c; decide) (fun h => by revert c; decide)) $$ HR HG; iintro HG; beta_reduce
  iapply (step_gather m ρ K c 4 (n := 4) (n' := 5) rfl rfl (by revert c; decide) (fun h => by revert c; decide) (by revert c; decide) (by revert c; decide) (fun h => by revert c; decide)) $$ HR HG; iintro HG; beta_reduce
  iapply step_pure
  iapply Hk $$ Hr Hg Hat HG

theorem body_part11 {Q : _ → sProp (MT nD τ sig Unit (Elt F) ℕ UU ℕ)} (v : BitVec 32) :
    records m ρ K
      ⊢ iprop(levAts L lv -∗ Gather m ρ c 5 -∗ bigSep Finset.univ (oth c (due c 3))
          -∗ (bigSep Finset.univ (oth c fun q => cred (tallyAt (xCell 2 c q) () N)) -∗ Waiting m ρ c 3 id 0 6
              -∗ Q ⟨Scalar.extui (Scalar.cmpi .ne (pos c) 6#32), 0#32⟩)
          -∗ wpc c (k0_part11 xM (Memref.isWhole_whole _) w1M (Memref.isWhole_whole _) w2M (Memref.isWhole_whole _) oM (Memref.isWhole_whole _)
            pM (Memref.isWhole_whole _) gM (Memref.isWhole_whole _) rM (Memref.isWhole_whole _) cc0_scratch3 cc0_scratch4 cc0_scratch5 cc0_scratch6
            c (pos c) v) Q) := by
  rw [k0_part11_eq_skeleton]; unfold k0_part11_skel
  iintro #HR #HL HG Hdue Hk
  iapply (step_gather m ρ K c 5 (n := 5) (n' := 6) rfl rfl (by revert c; decide) (fun h => by revert c; decide) (by revert c; decide) (by revert c; decide) (fun h => by revert c; decide)) $$ HR HG; iintro HG; beta_reduce
  iapply (step_gather m ρ K c 6 (n := 6) (n' := 7) rfl rfl (by revert c; decide) (fun h => by revert c; decide) (by revert c; decide) (by revert c; decide) (fun h => by revert c; decide)) $$ HR HG; iintro HG; beta_reduce
  iapply (step_gather m ρ K c 7 (n := 7) (n' := 8) rfl rfl (by revert c; decide) (fun h => by revert c; decide) (by revert c; decide) (by revert c; decide) (fun h => by revert c; decide)) $$ HR HG; iintro HG; beta_reduce
  ihave H := (gather_sent m ρ c) $$ HG
  icases H with ⟨HO, Hsent⟩
  ihave HW := (waiting_start m ρ c 3 (Equiv.refl _) (f := id) rfl 0) $$ [HO Hdue]
  · isplitl [HO]; · iexact HO
    iexact Hdue
  iapply (step_waitIf m ρ K c 3 0 (n := 0) (n' := 1) (by revert c; decide) rfl rfl (l := 3) (by decide) (Above.zero 3) (by revert c; decide) (fun _ => by rfl)) $$ HR HL HW; iintro HW; beta_reduce
  iapply (step_waitIf m ρ K c 3 1 (n := 1) (n' := 2) (by revert c; decide) rfl rfl (l := 3) (by decide) (Above.zero 3) (by revert c; decide) (fun _ => by rfl)) $$ HR HL HW; iintro HW; beta_reduce
  iapply (step_waitIf m ρ K c 3 2 (n := 2) (n' := 3) (by revert c; decide) rfl rfl (l := 3) (by decide) (Above.zero 3) (by revert c; decide) (fun _ => by rfl)) $$ HR HL HW; iintro HW; beta_reduce
  iapply (step_waitIf m ρ K c 3 3 (n := 3) (n' := 4) (by revert c; decide) rfl rfl (l := 3) (by decide) (Above.zero 3) (by revert c; decide) (fun _ => by rfl)) $$ HR HL HW; iintro HW; beta_reduce
  iapply (step_waitIf m ρ K c 3 4 (n := 4) (n' := 5) (by revert c; decide) rfl rfl (l := 3) (by decide) (Above.zero 3) (by revert c; decide) (fun _ => by rfl)) $$ HR HL HW; iintro HW; beta_reduce
  iapply (step_waitIf m ρ K c 3 5 (n := 5) (n' := 6) (by revert c; decide) rfl rfl (l := 3) (by decide) (Above.zero 3) (by revert c; decide) (fun _ => by rfl)) $$ HR HL HW; iintro HW; beta_reduce
  iapply step_pure
  iapply Hk $$ Hsent HW

theorem body_part12 {Q : _ → sProp (MT nD τ sig Unit (Elt F) ℕ UU ℕ)} :
    records m ρ K
      ⊢ iprop(levAts L lv -∗ Waiting m ρ c 3 id 0 6 -∗ holds c (gRows c) (lent c) (summed m ρ c)
          -∗ (∃ f : Buf (Elt F) ((c : Thread nD τ).loc cc0_stg3_0), ((c : Thread nD τ).loc cc0_stg3_0) ↦{fullShare} f)
          -∗ bigSep Finset.univ (oth c (due c 0))
          -∗ ((((c : Thread nD τ).loc cc0_scratch1) ↦{lent c} gathered m ρ) -∗ spare m ρ c
              -∗ bigSep Finset.univ (oth c fun q => atPos ER (xCell 3 c q) 1 ∅ 0)
              -∗ (((c : Thread nD τ).loc cc0_stg3_0) ↦{fullShare} outAll m ρ) -∗ Waiting m ρ c 0 (peer c) 0 4 -∗ Q ⟨⟩)
          -∗ wpc c (k0_part12 xM (Memref.isWhole_whole _) w1M (Memref.isWhole_whole _) w2M (Memref.isWhole_whole _) oM (Memref.isWhole_whole _)
            pM (Memref.isWhole_whole _) gM (Memref.isWhole_whole _) rM (Memref.isWhole_whole _) cc0_scratch3 cc0_scratch4 cc0_scratch5 cc0_scratch6
            c (pos c) (Scalar.extui (Scalar.cmpi .ne (pos c) 6#32)) 0#32) Q) := by
  rw [k0_part12_eq_skeleton]; unfold k0_part12_skel
  iintro #HR #HL HW Hg Hout Hdue Hk
  iapply (step_waitIf m ρ K c 3 6 (n := 6) (n' := 7) (by revert c; decide) rfl rfl (l := 3) (by decide) (Above.zero 3) (by revert c; decide) (fun _ => by rfl)) $$ HR HL HW; iintro HW; beta_reduce
  iapply (step_waitIf m ρ K c 3 7 (n := 7) (n' := 8) (by revert c; decide) rfl rfl (l := 3) (by decide) (Above.zero 3) (by revert c; decide) (fun _ => by rfl)) $$ HR HL HW; iintro HW; beta_reduce
  ihave H := (gather_done m ρ c) $$ [Hg HW]
  · isplitl [Hg]; · iexact Hg
    iexact HW
  icases H with ⟨HO, Hg, Hsp, Hat⟩
  iapply (step_load c gM (Memref.readAt_unit_zero (Elt F) cc0_scratch1 (by decide) _ _)) $$ Hg; iintro Hg
  beta_reduce
  icases Hout with ⟨%f, Hout⟩
  iapply (step_load c oM rfl) $$ Hout; iintro Hout
  beta_reduce
  iapply (step_storeOut m ρ c (by decide)) $$ Hout; iintro Hout
  beta_reduce
  clear f
  ihave HW := (waiting_start m ρ c 0 (peers c) (f := peer c) rfl 0) $$ [HO Hdue]
  · isplitl [HO]; · iexact HO
    iexact Hdue
  iapply (step_wait m ρ K c 0 (peer c) 0 (fun h => by have := (peer_eq_self c 0).mp h; revert this; decide) (n := 0) (n' := 1) rfl rfl (l := 3) (by revert c; decide) (Above.zero 3) (by revert c; decide) (by rfl)) $$ HR HL HW; iintro HW; beta_reduce
  iapply (step_wait m ρ K c 0 (peer c) 1 (fun h => by have := (peer_eq_self c 1).mp h; revert this; decide) (n := 1) (n' := 2) rfl rfl (l := 3) (by revert c; decide) (Above.zero 3) (by revert c; decide) (by rfl)) $$ HR HL HW; iintro HW; beta_reduce
  iapply (step_wait m ρ K c 0 (peer c) 2 (fun h => by have := (peer_eq_self c 2).mp h; revert this; decide) (n := 2) (n' := 3) rfl rfl (l := 3) (by revert c; decide) (Above.zero 3) (by revert c; decide) (by rfl)) $$ HR HL HW; iintro HW; beta_reduce
  iapply (step_wait m ρ K c 0 (peer c) 3 (fun h => by have := (peer_eq_self c 3).mp h; revert this; decide) (n := 3) (n' := 4) rfl rfl (l := 3) (by revert c; decide) (Above.zero 3) (by revert c; decide) (by rfl)) $$ HR HL HW; iintro HW; beta_reduce
  iapply step_pure
  iapply Hk $$ Hg Hsp Hat Hout HW

theorem body_part13 {Q : _ → sProp (MT nD τ sig Unit (Elt F) ℕ UU ℕ)} :
    records m ρ K
      ⊢ iprop(levAts L lv -∗ Waiting m ρ c 0 (peer c) 0 4 -∗ bigSep Finset.univ (oth c (due c 2))
          -∗ (bigSep Finset.univ (oth c fun q => some' (F := F) c (pRows q)) -∗ bigSep Finset.univ (oth c fun q => atPos ER (xCell 0 c q) 1 ∅ 0)
              -∗ Waiting m ρ c 2 id 0 4 -∗ Q ⟨⟩)
          -∗ wpc c (k0_part13 xM (Memref.isWhole_whole _) w1M (Memref.isWhole_whole _) w2M (Memref.isWhole_whole _) oM (Memref.isWhole_whole _)
            pM (Memref.isWhole_whole _) gM (Memref.isWhole_whole _) rM (Memref.isWhole_whole _) cc0_scratch3 cc0_scratch4 cc0_scratch5 cc0_scratch6
            c (pos c)) Q) := by
  rw [k0_part13_eq_skeleton]; unfold k0_part13_skel
  iintro #HR #HL HW Hdue Hk
  iapply (step_wait m ρ K c 0 (peer c) 4 (fun h => by have := (peer_eq_self c 4).mp h; revert this; decide) (n := 4) (n' := 5) rfl rfl (l := 3) (by revert c; decide) (Above.zero 3) (by revert c; decide) (by rfl)) $$ HR HL HW; iintro HW; beta_reduce
  iapply (step_wait m ρ K c 0 (peer c) 5 (fun h => by have := (peer_eq_self c 5).mp h; revert this; decide) (n := 5) (n' := 6) rfl rfl (l := 3) (by revert c; decide) (Above.zero 3) (by revert c; decide) (by rfl)) $$ HR HL HW; iintro HW; beta_reduce
  iapply (step_wait m ρ K c 0 (peer c) 6 (fun h => by have := (peer_eq_self c 6).mp h; revert this; decide) (n := 6) (n' := 7) rfl rfl (l := 3) (by revert c; decide) (Above.zero 3) (by revert c; decide) (by rfl)) $$ HR HL HW; iintro HW; beta_reduce
  ihave H := (scatter_back m ρ c) $$ HW
  icases H with ⟨HO, Hp, Hat⟩
  ihave HW := (waiting_start m ρ c 2 (Equiv.refl _) (f := id) rfl 0) $$ [HO Hdue]
  · isplitl [HO]; · iexact HO
    iexact Hdue
  iapply (step_waitIf m ρ K c 2 0 (n := 0) (n' := 1) (by revert c; decide) rfl rfl (l := 3) (by decide) (Above.zero 3) (by revert c; decide) (fun _ => by rfl)) $$ HR HL HW; iintro HW; beta_reduce
  iapply (step_waitIf m ρ K c 2 1 (n := 1) (n' := 2) (by revert c; decide) rfl rfl (l := 3) (by decide) (Above.zero 3) (by revert c; decide) (fun _ => by rfl)) $$ HR HL HW; iintro HW; beta_reduce
  iapply (step_waitIf m ρ K c 2 2 (n := 2) (n' := 3) (by revert c; decide) rfl rfl (l := 3) (by decide) (Above.zero 3) (by revert c; decide) (fun _ => by rfl)) $$ HR HL HW; iintro HW; beta_reduce
  iapply (step_waitIf m ρ K c 2 3 (n := 3) (n' := 4) (by revert c; decide) rfl rfl (l := 3) (by decide) (Above.zero 3) (by revert c; decide) (fun _ => by rfl)) $$ HR HL HW; iintro HW; beta_reduce
  iapply step_pure
  iapply Hk $$ Hp Hat HW

end Cert.AllPairs

end
-- ==== Proof.Whole.lean ====
/-
# `Whole`: the kernel's body on one device, put together

What a device's body starts from, what it ends with, and the run between the two.
-/
module

public import proofs.«01_k».proof.Proof.Body
public import Idealize.ShloMosaic.Lib.Rounds.Family
public import proofs.«01_k».proof.Proof.Pieces

@[expose] public section

noncomputable section

namespace Cert.AllPairs

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Cells → ℕ) (c : Dev nD)

/-- Some contents of a whole buffer. -/
def full (b : Ref sig .tc) : sProp 𝕄 := iprop(∃ f : Buf (Elt F) ((c : Thread nD τ).loc b), ((c : Thread nD τ).loc b) ↦{fullShare} f)

/-- The duty tokens device `c` pays with: one at every other device's barrier, its transfers' at both their ends. -/
def payToks : sProp 𝕄 :=
  iprop(bigSep Finset.univ (oth c fun q => dutyTok ER (barCell q) 0 c)
    ∗ bigSep Finset.univ (oth c fun q => dutyTok ER (xCell 0 c q) 0 0) ∗ bigSep Finset.univ (oth c fun q => dutyTok ER (xCell 1 q c) 0 0)
    ∗ bigSep Finset.univ (oth c fun q => dutyTok ER (xCell 2 c q) 0 0) ∗ bigSep Finset.univ (oth c fun q => dutyTok ER (xCell 3 q c) 0 0))

/-- The round a cell of device `c` is at when the body ends. -/
def lastRound : Cells → ℕ
  | none => 1
  | some (_, q) => if q = c then 0 else 1

/-- The credit raised on device `c`'s cells by other devices. -/
def creds : sProp 𝕄 :=
  iprop(cred (tallyAt (barCell c) () 7) ∗ bigSep Finset.univ (oth c fun q => cred (tallyAt (xCell 1 c q) () N))
    ∗ bigSep Finset.univ (oth c fun q => cred (tallyAt (xCell 3 c q) () N)))

omit [FloatOps F] in
theorem bigSep_arrays (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- A family over a device's cells: the barrier, and the DMA cells array by array, the ones for itself apart. -/
theorem bigSep_cells (Φ : Cells → sProp 𝕄) :
    bigSep Finset.univ Φ = iprop(Φ none ∗ bigSep Finset.univ fun kq : Fin 4 × Fin 8 => Φ (some kq)) := by
  rw [bigSep_univ_at _ (none : Cells), show (Finset.univ.erase none : Finset Cells) = Finset.univ.map Function.Embedding.some from by decide, bigSep_map]; rfl

omit [FloatOps F] in
theorem bigSep_cells' (Φ : Cells → sProp 𝕄) :
    bigSep Finset.univ Φ = iprop(Φ none
      ∗ (Φ (some (0, c)) ∗ bigSep Finset.univ (oth c fun q => Φ (some (0, q)))) ∗ (Φ (some (1, c)) ∗ bigSep Finset.univ (oth c fun q => Φ (some (1, q))))
      ∗ (Φ (some (2, c)) ∗ bigSep Finset.univ (oth c fun q => Φ (some (2, q)))) ∗ (Φ (some (3, c)) ∗ bigSep Finset.univ (oth c fun q => Φ (some (3, q))))) := by
  rw [bigSep_cells, bigSep_univ_prod, bigSep_arrays, all_eq c fun q : Fin 8 => Φ (some (0, q)), all_eq c fun q : Fin 8 => Φ (some (1, q)),
    all_eq c fun q : Fin 8 => Φ (some (2, q)), all_eq c fun q : Fin 8 => Φ (some (3, q))]

omit [FloatOps F] in
/-- `oth` sees a family at the other devices only. -/
theorem oth_congr {A B : Fin 8 → sProp (MT nD τ sig Unit (Elt F) ℕ UU ℕ)} (h : ∀ q, q ≠ c → A q = B q) : oth c A = oth c B :=
  funext fun q => by
    by_cases hq : q = c
    · subst hq; rw [oth_self, oth_self]
    · rw [oth_ne hq, oth_ne hq, h q hq]

omit [FloatOps F] in
/-- The positions at the end, cell by cell. -/
theorem places_eq :
    (bigSep Finset.univ fun k : Cells => atPos ER (kcell (c, k)) (lastRound c k) ∅ 0 : sProp 𝕄)
      = iprop(atPos ER (barCell c) 1 ∅ 0
        ∗ (atPos ER (xCell 0 c c) 0 ∅ 0 ∗ bigSep Finset.univ (oth c fun q => atPos ER (xCell 0 c q) 1 ∅ 0))
        ∗ (atPos ER (xCell 1 c c) 0 ∅ 0 ∗ bigSep Finset.univ (oth c fun q => atPos ER (xCell 1 c q) 1 ∅ 0))
        ∗ (atPos ER (xCell 2 c c) 0 ∅ 0 ∗ bigSep Finset.univ (oth c fun q => atPos ER (xCell 2 c q) 1 ∅ 0))
        ∗ (atPos ER (xCell 3 c c) 0 ∅ 0 ∗ bigSep Finset.univ (oth c fun q => atPos ER (xCell 3 c q) 1 ∅ 0))) := by
  have hs (a : Fin 4) : lastRound c (some (a, c)) = 0 := if_pos rfl
  have ho (a : Fin 4) (q : Fin 8) (h : q ≠ c) : lastRound c (some (a, q)) = 1 := if_neg h
  have e (a : Fin 4) : (oth c fun q => (atPos ER (kcell (c, some (a, q))) (lastRound c (some (a, q))) ∅ 0 : sProp 𝕄)) = oth c fun q => atPos ER (xCell a c q) 1 ∅ 0 :=
    oth_congr c fun q h => by rw [ho a q h]
  rw [bigSep_cells' c, e, e, e, e, hs, hs, hs, hs]; rfl

/-- The cells close: nothing is to come at any, and each counter at zero is the device's again. -/
theorem close_cells :
    iprop(records m ρ K ∗ bigSep Finset.univ fun k : Cells => atPos ER (kcell (c, k)) (lastRound c k) ∅ 0)
      ⊢ (|={Set.univ}=> bigSep Finset.univ fun k : Cells => semVal (kcell (c, k)) 0 : sProp 𝕄) := by
  have hw : iprop(records m ρ K ∗ bigSep Finset.univ fun k : Cells => atPos ER (kcell (c, k)) (lastRound c k) ∅ 0)
      ⊢ (bigSep Finset.univ fun k : Cells => iprop(cellInv ER (sched m ρ) (K (c, k)) (kcell (c, k)) ∗ atPos ER (kcell (c, k)) (lastRound c k) ∅ 0) : sProp 𝕄) := by
    rw [bigSep_sep']
    iintro ⟨#HR, Hat⟩
    isplitr
    · iapply ((BI.bigSep_of_persistent Finset.univ (records m ρ K)).trans (bigSep_mono fun k _ => rec_inv m ρ K (c, k))); iexact HR
    · iexact Hat
  refine hw.trans (Rounds.cells_close ER (sched m ρ) Finset.univ (fun k : Cells => kcell (c, k)) (fun k => K (c, k)) (fun _ _ => Set.mem_univ _) (fun _ _ h => h) (lastRound c) ?_)
  rintro (_ | ⟨a, q⟩) - r hr
  · exact duties_later m ρ _ r hr
  · by_cases hq : q = c
    · subst hq
      rcases Nat.eq_zero_or_pos r with rfl | h
      · exact duties_self m ρ q a
      · exact duties_later m ρ _ r h
    · exact duties_later m ρ _ r (by rw [show lastRound c (some (a, q)) = 1 from if_neg hq] at hr; exact hr)

/-- At its end the body may take one more update. -/
theorem step_end {α : Type} (a : α) {Q : α → sProp (MT nD τ sig Unit (Elt F) ℕ UU ℕ)} :
    (|={Set.univ}=> Q a) ⊢ wpc c (Pure.pure a) Q := Entails.of_eq (wp_ret ..).symm

/-- What the body starts from: its records, positions, tokens and credit, its staged operands and its buffers. -/
def before : sProp 𝕄 :=
  iprop(owing c (O₀ c) ∗ (bigSep Finset.univ fun k : Cells => atPos ER (kcell (c, k)) 0 ∅ 0) ∗ payToks c ∗ creds c
    ∗ xPts m ρ c ∗ w1Pts m ρ c ∗ w2Pts m ρ c ∗ full c cc0_stg3_0 ∗ full c cc0_scratch0 ∗ full c cc0_scratch1 ∗ full c cc0_scratch2)

/-- What it ends with: nothing owed, the operands as they were, the result, its counters at zero. -/
def after : sProp 𝕄 :=
  iprop(owing c 0 ∗ (bigSep Finset.univ fun k : Cells => semVal (kcell (c, k)) 0)
    ∗ xPts m ρ c ∗ w1Pts m ρ c ∗ w2Pts m ρ c ∗ (((c : Thread nD τ).loc cc0_stg3_0) ↦{fullShare} outAll m ρ)
    ∗ full c cc0_scratch0 ∗ full c cc0_scratch1 ∗ full c cc0_scratch2)

set_option maxHeartbeats 1600000 in
/-- The body of the kernel on device `c`. -/
theorem body_run {Kt : PUnit → sProp (MT nD τ sig Unit (Elt F) ℕ UU ℕ)} :
    records m ρ K
      ⊢ iprop(levAts L lv -∗ before m ρ c -∗ (after m ρ c -∗ Kt ⟨⟩)
          -∗ wpc c (cc0_body xM (Memref.isWhole_whole _) w1M (Memref.isWhole_whole _) w2M (Memref.isWhole_whole _) oM (Memref.isWhole_whole _)
            pM (Memref.isWhole_whole _) gM (Memref.isWhole_whole _) rM (Memref.isWhole_whole _) cc0_scratch3 cc0_scratch4 cc0_scratch5 cc0_scratch6) Kt) := by
  rw [cc0_body_eq_skeleton]; unfold cc0_body_skel before payToks creds full
  rw [bigSep_cells' c]
  iintro #HR #HL ⟨HO, ⟨HaB, ⟨Ha0c, Ha0⟩, ⟨Ha1c, Ha1⟩, ⟨Ha2c, Ha2⟩, Ha3c, Ha3⟩, ⟨HtB, Ht0, Ht1, Ht2, Ht3⟩, ⟨HcB, Hc1, Hc3⟩, Hx, Hw1, Hw2, Hout, Hp, Hg, Hr⟩ Hk
  -- the buffers in pieces
  ihave Hp := (p_split c) $$ Hp
  ihave Hp := (Entails.of_eq (all_eq c fun q : Fin 8 => some' (F := F) c (pRows q))) $$ Hp
  icases Hp with ⟨Hpc, Hp⟩
  ihave Hrows := (show _ ⊢ Rows c 0 from Entails.of_eq (oth_order c fun q => some' (F := F) c (pRows q))) $$ Hp
  ihave Hg := (g_split c) $$ Hg
  ihave Hg := (Entails.of_eq (all_eq c fun q : Fin 8 => some' (F := F) c (gRows q))) $$ Hg
  icases Hg with ⟨Hgc, Hg⟩
  ihave Hr := (r_split c) $$ Hr
  ihave Hr := (Entails.of_eq (all_eq c fun q : Fin 8 => some' (F := F) c (rSlot q))) $$ Hr
  icases Hr with ⟨Hrc, Hr⟩
  ihave HS := (signals_start c) $$ [HO HtB Hr Hg]
  · isplitl [HO]; · iexact HO
    isplitl [HtB]; · iexact HtB
    isplitl [Hr] <;> iassumption
  -- ready signals, first block, the wait for everyone's signal
  iapply (step_bind c); iapply (body_part1 m ρ K c) $$ HR HS Hw1; iintro HS Hw1; try dsimp (config := {zeta := false}) only
  ihave HO := (signals_done c) $$ HS
  iapply (step_bind c); iapply (body_part2 m ρ K c) $$ HR HL Hw2 Hx Hrows HO HcB HaB; iintro Hw2 Hx Hrows Hp0 HO HaB Hb; try dsimp (config := {zeta := false}) only
  ihave Hb := (show bigSep Finset.univ (oth c fun d => barPay (F := F) c d) ⊢ _ from Entails.of_eq (oth_sep c (fun d => some' (F := F) d (rSlot c)) (fun d => some' (F := F) d (gRows c)))) $$ Hb
  icases Hb with ⟨Hbr, Hbg⟩
  -- the scatter
  ihave HS := (scatter_start c) $$ [HO Ht0 Ht1 Hbr]
  · isplitl [HO]; · iexact HO
    isplitl [Ht0]; · iexact Ht0
    isplitl [Ht1] <;> iassumption
  iapply (step_bind c); iapply (body_part3 m ρ K c) $$ HR Hx Hrows HS Hp0; iintro Hx Hrows HS; try dsimp (config := {zeta := false}) only
  iapply (step_bind c); iapply (body_part4 m ρ K c) $$ HR Hx Hrows HS; iintro %r4 Hx Hrows HS; try dsimp (config := {zeta := false}) only
  iapply (step_bind c); iapply (body_part5 m ρ K c) $$ HR Hx Hrows HS; iintro %r5 Hx Hrows HS; try dsimp (config := {zeta := false}) only
  iapply (step_bind c); iapply (body_part6 m ρ K c) $$ HR Hx Hrows HS; iintro %r6 Hx Hrows HS; try dsimp (config := {zeta := false}) only
  iapply (step_bind c); iapply (body_part7 m ρ K c) $$ HR Hx Hrows HS; iintro %r7 Hx Hrows HS; try dsimp (config := {zeta := false}) only
  iapply (step_bind c); iapply (body_part8 m ρ K c) $$ HR Hx Hrows HS; iintro %r8 Hx Hrows HS; try dsimp (config := {zeta := false}) only
  ihave H := (scatter_sent c) $$ HS
  icases H with ⟨HO, Hc0⟩
  ihave Hdue := (Entails.of_eq (due_eq c 1).symm) $$ [Hc1 Ha1]
  · isplitl [Hc1] <;> iassumption
  ihave HW := (waiting_start m ρ c 1 (Equiv.refl _) (f := id) rfl (owedGa c 0)) $$ [HO Hdue]
  · isplitl [HO] <;> iassumption
  iapply (step_bind c); iapply (body_part9 m ρ K c) $$ HR HL Hx Hrc HW; iintro Hx Hrc HW; try dsimp (config := {zeta := false}) only
  -- the sum, the gather
  ihave Hroom := (Entails.of_eq (room_eq c).symm) $$ [Ht2 Ht3 Hbg]
  · isplitl [Ht2]; · iexact Ht2
    isplitl [Ht3] <;> iassumption
  iapply (step_bind c); iapply (body_part10 m ρ K c) $$ HR HL Hrc Hgc HW Hroom; iintro %r10 Hr Hgc Ha1 HG; try dsimp (config := {zeta := false}) only
  ihave Hdue := (Entails.of_eq (due_eq c 3).symm) $$ [Hc3 Ha3]
  · isplitl [Hc3] <;> iassumption
  iapply (step_bind c); iapply (body_part11 m ρ K c) $$ HR HL HG Hdue; iintro Hc2 HW; try dsimp (config := {zeta := false}) only
  ihave Hdue := (Entails.of_eq (due_eq c 0).symm) $$ [Hc0 Ha0]
  · isplitl [Hc0] <;> iassumption
  iapply (step_bind c); iapply (body_part12 m ρ K c) $$ HR HL HW Hgc Hout Hdue; iintro Hg Hsp Ha3 Hout HW; try dsimp (config := {zeta := false}) only
  ihave Hdue := (Entails.of_eq (due_eq c 2).symm) $$ [Hc2 Ha2]
  · isplitl [Hc2] <;> iassumption
  iapply (step_bind c); iapply (body_part13 m ρ K c) $$ HR HL HW Hdue; iintro Hp Ha0 HW; try dsimp (config := {zeta := false}) only
  iapply (step_waitIf m ρ K c 2 4 (n := 4) (n' := 5) (by revert c; decide) rfl rfl (l := 3) (by decide) (Above.zero 3) (by revert c; decide) (fun _ => by rfl)) $$ HR HL HW; iintro HW; beta_reduce
  iapply (step_waitIf m ρ K c 2 5 (n := 5) (n' := 6) (by revert c; decide) rfl rfl (l := 3) (by decide) (Above.zero 3) (by revert c; decide) (fun _ => by rfl)) $$ HR HL HW; iintro HW; beta_reduce
  iapply (step_waitIf m ρ K c 2 6 (n := 6) (n' := 7) (by revert c; decide) rfl rfl (l := 3) (by decide) (Above.zero 3) (by revert c; decide) (fun _ => by rfl)) $$ HR HL HW; iintro HW; beta_reduce
  iapply (step_waitIf m ρ K c 2 7 (n := 7) (n' := 8) (by revert c; decide) rfl rfl (l := 3) (by decide) (Above.zero 3) (by revert c; decide) (fun _ => by rfl)) $$ HR HL HW; iintro HW; beta_reduce
  ihave H := (waiting_end m ρ c 2 (Equiv.refl _) (f := id) rfl 0) $$ HW
  icases H with ⟨HO, Hl, Ha2⟩
  ihave Hl := (show bigSep Finset.univ (oth c (xPay m ρ 2 c)) ⊢ bigSep Finset.univ (oth c fun i => holds c (gRows c) (lent i) (summed m ρ c)) from Entails.of_eq rfl) $$ Hl
  -- every buffer whole again, every cell closed
  ihave Hg := (gather_back m ρ c) $$ [Hg Hsp Hl]
  · isplitl [Hg]; · iexact Hg
    isplitl [Hsp] <;> iassumption
  ihave Hp := (Entails.of_eq (all_eq c fun q : Fin 8 => some' (F := F) c (pRows q)).symm) $$ [Hpc Hp]
  · isplitl [Hpc] <;> iassumption
  ihave Hp := (p_join c) $$ Hp
  ihave Hat := (Entails.of_eq (places_eq (F := F) c).symm) $$ [HaB Ha0c Ha0 Ha1c Ha1 Ha2c Ha2 Ha3c Ha3]
  · isplitl [HaB]; · iexact HaB
    isplitl [Ha0c Ha0]
    · isplitl [Ha0c] <;> iassumption
    isplitl [Ha1c Ha1]
    · isplitl [Ha1c] <;> iassumption
    isplitl [Ha2c Ha2]
    · isplitl [Ha2c] <;> iassumption
    isplitl [Ha3c] <;> iassumption
  iapply (step_end c)
  imod (close_cells m ρ K c) $$ [Hat] with Hz
  · isplitr; · iexact HR
    iexact Hat
  imodintro
  iapply Hk
  unfold after full
  isplitl [HO]; · iexact HO
  isplitl [Hz]; · iexact Hz
  isplitl [Hx]; · iexact Hx
  isplitl [Hw1]; · iexact Hw1
  isplitl [Hw2]; · iexact Hw2
  isplitl [Hout]; · iexact Hout
  isplitl [Hp]; · iexact Hp
  isplitl [Hg]; · iexact Hg
  iexists landed m ρ c; iexact Hr

end Cert.AllPairs

end
-- ==== Proof.Launch.lean ====
/-
# `Launch`: the run of the whole program

The launch deals every device its tokens, positions and credit, the cells' invariants are set up for all devices
together, and every execution ends with each device's result array holding the computed contents.
-/
module

public import proofs.«01_k».proof.Proof.Whole
public import proofs.«01_k».proof.Proof.Gen.KernelIdeal.Points
public import proofs.«01_k».proof.Proof.Gen.KernelIdeal.Frame
public import Idealize.ShloMosaic.Lib.Pipeline.CollectiveSegs
public import proofs.«01_k».proof.Proof.Pieces

@[expose] public section

noncomputable section

namespace Cert.AllPairs

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
open Idealize.ShloMosaic.Pipeline (Dat Cfg Window BodyObligation cellOf)

/-! ## The pipeline's data -/

/-- The kernel's own semaphores, by array and peer. -/
def osem (kq : Fin 4 × Fin 8) : SemLoc sig := .dma (xsem kq.1 kq.2)

/-- A device's positions and tokens, with the records it shares. -/
def dealt (c : Dev nD) : sProp 𝕄 := iprop((bigSep Finset.univ fun k : Cells => atPos ER (kcell (c, k)) 0 ∅ 0) ∗ payToks c)
def shared (c : Dev nD) : sProp 𝕄 := iprop(∃ K, records m ρ K ∗ dealt c)
def start (c : Dev nD) : sProp 𝕄 := iprop(shared m ρ c ∗ creds c ∗ levAts L lv)

/-- The kernel's three scratch buffers, whatever they hold. -/
def scratch (c : Dev nD) : sProp 𝕄 := iprop(full (F := F) c cc0_scratch0 ∗ full c cc0_scratch1 ∗ full c cc0_scratch2)

def Φ₀ (c : Dev nD) : sProp 𝕄 := iprop(start m ρ c ∗ scratch c)
def Φ₁ (c : Dev nD) : sProp 𝕄 := iprop((bigSep Finset.univ fun k : Cells => semVal (kcell (c, k)) 0) ∗ scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => w1stg m ρ c
    | ⟨2, _⟩ => w2stg m ρ c
    | ⟨3, _⟩ => outAll m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer known to hold `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
theorem stg_intro (c : Dev nD) (b : Ref sig .tc) (X : b.ty.Contents (Elt F)) :
    (((c : Thread nD τ).loc b) ↦{fullShare} X : sProp 𝕄) ⊢ stg c b X := by
  iintro H; iexists X; isplitr; · (ipureintro; rfl)
  iexact H

def bodyPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ c ∗ (dats m ρ 0 c).owesAt () t0_0.succ
    ∗ stg c cc0_stg0_0 (xstg m ρ c) ∗ stg c cc0_stg1_0 (w1stg m ρ c) ∗ stg c cc0_stg2_0 (w2stg m ρ c) ∗ stg c cc0_stg3_0 (outAll m ρ))

set_option maxRecDepth 4000 in
theorem bodyPre_run (c : Dev nD) :
    bodyPre m ρ c ⊢ wpc c (cc0_body xM (Memref.isWhole_whole _) w1M (Memref.isWhole_whole _) w2M (Memref.isWhole_whole _) oM (Memref.isWhole_whole _)
        pM (Memref.isWhole_whole _) gM (Memref.isWhole_whole _) rM (Memref.isWhole_whole _) cc0_scratch3 cc0_scratch4 cc0_scratch5 cc0_scratch6) (fun _ => bodyPost m ρ c) := by
  unfold bodyPre Φ₀ start shared dealt scratch Dat.owesAt Pipeline.owesWithin
  rw [show (dats m ρ 0 c).owed t0_0.castSucc = O₀ c from rfl]
  iintro ⟨⟨⟨⟨%K, #HR, Hat, Htok⟩, Hcr, #HL⟩, Hp, Hg, Hr⟩, ⟨%W, %hW, HO⟩, ⟨%d0, %g0, %h0, Hx⟩, ⟨%d1, %g1, %h1, Hw1⟩, ⟨%d2, %g2, %h2, Hw2⟩, ⟨%d3, %g3, -, Hout⟩⟩
  have e0 : g0 = xstg m ρ c := by rw [h0]; unfold Dat.before; rw [if_pos (fetch0_0 t0_0)]; rfl
  have e1 : g1 = w1stg m ρ c := by rw [h1]; unfold Dat.before; rw [if_pos (fetch0_1 t0_0)]; rfl
  have e2 : g2 = w2stg m ρ c := by rw [h2]; unfold Dat.before; rw [if_pos (fetch0_2 t0_0)]; rfl
  subst e0; subst e1; subst e2
  iapply (body_run m ρ K c) $$ HR HL [HO Hat Htok Hcr Hx Hw1 Hw2 Hout Hp Hg Hr]
  · unfold before owing xPts w1Pts w2Pts full
    isplitl [HO]; · iexists W; iexact HO
    isplitl [Hat]; · iexact Hat
    isplitl [Htok]; · iexact Htok
    isplitl [Hcr]; · iexact Hcr
    isplitl [Hx]; · iexact Hx
    isplitl [Hw1]; · iexact Hw1
    isplitl [Hw2]; · iexact Hw2
    isplitl [Hout]; · iexists g3; iexact Hout
    isplitl [Hp]; · iexact Hp
    isplitl [Hg] <;> iassumption
  unfold after bodyPost Φ₁ scratch owing xPts w1Pts w2Pts Dat.owesAt Pipeline.owesWithin
  rw [show (dats m ρ 0 c).owed t0_0.succ = 0 from rfl]
  iintro ⟨⟨%W', HO⟩, Hz, Hx, Hw1, Hw2, Hout, Hs⟩
  isplitl [Hz Hs]
  · isplitl [Hz] <;> iassumption
  isplitl [HO]
  · iexists W'; isplitr; · ipureintro; exact fun _ _ => Or.inl trivial
    iexact HO
  isplitl [Hx]; · iapply (stg_intro c cc0_stg0_0); iexact Hx
  isplitl [Hw1]; · iapply (stg_intro c cc0_stg1_0); iexact Hw1
  isplitl [Hw2]; · iapply (stg_intro c cc0_stg2_0); iexact Hw2
  iapply (stg_intro c cc0_stg3_0); iexact Hout

set_option maxRecDepth 4000 in
/-- What the pipeline asks of the body on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  exact bodyPre_run m ρ c

/-! ## The launch's share-out -/

theorem ownSemFacts : Pipeline.OwnSemFacts cfg0.spec osem := by decide

theorem share_eq (c : Dev nD) (w : Fin cfg0.W) : (dats m ρ 0 c).share w = fullShare := by unfold Dat.share; split <;> rfl

theorem csem_inj {k k' : Cells} (h : csem k = csem k') : k = k' := by
  match k, k', h with
  | none, none, _ => rfl
  | some (a, q), some (a', q'), h => have := xsem_inj (SemLoc.dma.inj h); rw [this.1, this.2]
theorem kcell_injective : Function.Injective (kcell : Dev nD × Cells → GSem nD τ sig) := by
  rintro ⟨c, k⟩ ⟨c', k'⟩ h
  have h1 : c = c' := Fin.ext (congrArg (fun g : GSem nD τ sig => g.1.1.val) h)
  have h2 : k = k' := csem_inj (congrArg Prod.snd h)
  rw [h1, h2]
def allCells : Finset (GSem nD τ sig) := Finset.univ.map ⟨kcell, kcell_injective⟩

/-- The duties of a device's own cells: one per peer at the barrier, one at each DMA cell. -/
abbrev tokOf (x : Dev nD × Option (Fin 4) × Fin 8) : GSem nD τ sig × ℕ × Fin 8 := match x.2.1 with
  | none => (barCell x.1, 0, x.2.2)
  | some a => (xCell a x.1 x.2.2, 0, 0)
theorem tokOf_injective : Function.Injective tokOf := by
  rintro ⟨c, a, q⟩ ⟨c', a', q'⟩ h
  match a, a', h with
  | none, none, h =>
    have e : c = c' := barCell_inj (congrArg Prod.fst h)
    have e' : q = q' := congrArg (fun x : GSem nD τ sig × ℕ × Fin 8 => x.2.2) h
    rw [e, e']
  | some a, some a', h =>
    have e : a = a' ∧ c = c' ∧ q = q' := xCell_inj (congrArg Prod.fst h)
    rw [e.1, e.2.1, e.2.2]
  | none, some a', h => exact absurd (congrArg Prod.fst h).symm (xCell_ne_bar _ _ _ _)
  | some a, none, h => exact absurd (congrArg Prod.fst h) (xCell_ne_bar _ _ _ _)
def allToks : Finset (GSem nD τ sig × ℕ × Fin 8) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun q : Fin 8 => dutyTok ER (barCell c) 0 q)
    ∗ (bigSep Finset.univ fun q : Fin 8 => dutyTok ER (xCell 0 c q) 0 0) ∗ (bigSep Finset.univ fun q : Fin 8 => dutyTok ER (xCell 1 c q) 0 0)
    ∗ (bigSep Finset.univ fun q : Fin 8 => dutyTok ER (xCell 2 c q) 0 0) ∗ (bigSep Finset.univ fun q : Fin 8 => dutyTok ER (xCell 3 c q) 0 0))

/-- What the launch deals device `c`. -/
def G (c : Dev nD) : sProp 𝕄 :=
  iprop((bigSep Finset.univ fun k : Cells => roundState ER (sched m ρ) (kcell (c, k)) 0)
    ∗ (bigSep Finset.univ fun k : Cells => atPos ER (kcell (c, k)) 0 ∅ 0) ∗ (bigSep Finset.univ fun k : Cells => reached ER (kcell (c, k)) 0) ∗ toks c)

theorem bigSep_optArrays (Φ : Option (Fin 4) → sProp 𝕄) :
    bigSep Finset.univ Φ = iprop(Φ none ∗ Φ (some 0) ∗ Φ (some 1) ∗ Φ (some 2) ∗ Φ (some 3)) :=
  bigSep_univ_eq_bigSepL [none, some 0, some 1, some 2, some 3] (by decide) (by decide) Φ

theorem deal : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Cells => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_prod, bigSep_optArrays]; rfl
  iintro H
  imod (Rounds.fund ER (sched m ρ) allCells allToks) $$ H with ⟨Hst, Hre, Hat, Htok⟩
  imodintro
  ihave Hst := (Entails.of_eq (hX fun g => roundState ER (sched m ρ) g 0)) $$ Hst
  ihave Hat := (Entails.of_eq (hX fun g => atPos ER g 0 ∅ 0)) $$ Hat
  ihave Hre := (Entails.of_eq (hX fun g => reached ER g 0)) $$ Hre
  ihave Htok := (Entails.of_eq hT) $$ Htok
  unfold G; simp only [bigSep_sep']
  isplitl [Hst]; · iexact Hst
  isplitl [Hat]; · iexact Hat
  isplitl [Hre] <;> iassumption

/-! ## The invariants -/

omit [FloatOps F] in
/-- The barrier is the launch's one semaphore that no region scopes. -/
theorem unscoped_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's counters: the barrier's and its own semaphores'. -/
theorem counters_eq (c : Dev nD) :
    (bigSep Finset.univ fun k : Cells => semVal (kcell (c, k)) 0 : sProp 𝕄)
      = iprop(unscopedSems0 c ∗ Pipeline.ownSems0 (Ix := Unit) (Name := ℕ) (U := UU) (Lvl := ℕ) (Val := Elt F) (τ := τ) osem c) := by
  rw [bigSep_cells, unscoped_eq]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Cells => iprop(∃ κ : ℕ, cellInv ER (sched m ρ) κ (kcell (c, k))))
          ∗ (bigSep Finset.univ fun k : Cells => reached ER (kcell (c, k)) 0) ∗ (bigSep Finset.univ fun k : Cells => atPos ER (kcell (c, k)) 0 ∅ 0) ∗ toks c) := by
  unfold G
  iintro ⟨Hos, Hus, Hst, Hat, Hre, Htok⟩
  ihave Hv := (Entails.of_eq (counters_eq (F := F) c).symm) $$ [Hos Hus]
  · isplitl [Hus] <;> iassumption
  imod (show iprop((bigSep Finset.univ fun k : Cells => semVal (kcell (c, k)) 0) ∗ bigSep Finset.univ fun k : Cells => roundState ER (sched m ρ) (kcell (c, k)) 0)
      ⊢ (|={Set.univ}=> bigSep Finset.univ fun k : Cells => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hre]; · iexact Hre
  isplitl [Hat] <;> iassumption

omit [FloatOps F] in
/-- A family over all devices gives the one over the others. -/
theorem drop_own (c : Dev nD) (A : Fin 8 → sProp 𝕄) : bigSep Finset.univ A ⊢ bigSep Finset.univ (oth c A) := by
  rw [all_eq c A]; iintro ⟨-, H⟩; iexact H

omit [FloatOps F] in
/-- A family over pairs of devices, either one first. -/
theorem swap (Φ : Dev nD → Fin 8 → sProp 𝕄) :
    (bigSep Finset.univ fun c : Dev nD => bigSep Finset.univ (Φ c)) = bigSep Finset.univ fun q : Fin 8 => bigSep Finset.univ fun c : Dev nD => Φ c q := by
  rw [← bigSep_univ_prod fun x : Dev nD × Fin 8 => Φ x.1 x.2, bigSep_univ_equiv (Equiv.prodComm (Fin 8) (Dev nD)), bigSep_univ_prod]
  rfl

omit [FloatOps F] in
/-- The tokens go to the devices that pay with them: a barrier's to its peers, a receive cell's to the sender. -/
theorem toks_around : (bigSep Finset.univ fun c : Dev nD => (toks c : sProp 𝕄)) ⊢ bigSep Finset.univ fun c : Dev nD => payToks c := by
  have hp (c : Dev nD) : iprop((bigSep Finset.univ fun q : Dev nD => dutyTok ER (barCell q) 0 c)
      ∗ (bigSep Finset.univ fun q : Fin 8 => dutyTok ER (xCell 0 c q) 0 0) ∗ (bigSep Finset.univ fun q : Dev nD => dutyTok ER (xCell 1 q c) 0 0)
      ∗ (bigSep Finset.univ fun q : Fin 8 => dutyTok ER (xCell 2 c q) 0 0) ∗ (bigSep Finset.univ fun q : Dev nD => dutyTok ER (xCell 3 q c) 0 0)) ⊢ (payToks c : sProp 𝕄) := by
    unfold payToks
    iintro ⟨HB, H0, H1, H2, H3⟩
    isplitl [HB]; · iapply (drop_own c); iexact HB
    isplitl [H0]; · iapply (drop_own c); iexact H0
    isplitl [H1]; · iapply (drop_own c); iexact H1
    isplitl [H2]; · iapply (drop_own c); iexact H2
    iapply (drop_own c); iexact H3
  refine BI.Entails.trans ?_ (bigSep_mono (s := Finset.univ) fun c _ => hp c)
  unfold toks
  simp only [bigSep_sep']
  rw [swap fun (c : Dev nD) (q : Fin 8) => (dutyTok ER (barCell c) 0 q : sProp 𝕄),
    swap fun (c : Dev nD) (q : Fin 8) => (dutyTok ER (xCell 1 c q) 0 0 : sProp 𝕄),
    swap fun (c : Dev nD) (q : Fin 8) => (dutyTok ER (xCell 3 c q) 0 0 : sProp 𝕄)]
  exact BI.Entails.refl _

theorem regroup :
    (bigSep Finset.univ fun c : Dev nD => iprop((bigSep Finset.univ fun k : Cells => iprop(∃ κ : ℕ, cellInv ER (sched m ρ) κ (kcell (c, k))))
          ∗ (bigSep Finset.univ fun k : Cells => reached ER (kcell (c, k)) 0) ∗ (bigSep Finset.univ fun k : Cells => atPos ER (kcell (c, k)) 0 ∅ 0) ∗ toks c) : sProp 𝕄)
      ⊢ bigSep Finset.univ (shared m ρ) := by
  simp only [bigSep_sep']
  rw [← bigSep_univ_prod (fun ck : Dev nD × Cells => iprop(∃ κ : ℕ, cellInv ER (sched m ρ) κ (kcell ck))),
    ← bigSep_univ_prod (fun ck : Dev nD × Cells => (reached ER (kcell ck) 0 : sProp 𝕄))]
  iintro ⟨HI, #HRe, Hat, Htok⟩
  ihave HK := (BI.bigSep_exists_pi Finset.univ (fun (ck : Dev nD × Cells) (κ : ℕ) => (cellInv ER (sched m ρ) κ (kcell ck) : sProp 𝕄))) $$ HI
  icases HK with ⟨%K, #HI⟩
  ihave Htok := (toks_around (F := F)) $$ Htok
  have hs : iprop(records m ρ K ∗ (bigSep Finset.univ fun c : Dev nD => dealt (F := F) c)) ⊢ (bigSep Finset.univ (shared m ρ) : sProp 𝕄) := by
    refine BI.Entails.trans (sep_mono_left (BI.bigSep_of_persistent (Finset.univ : Finset (Dev nD)) (records m ρ K))) ?_
    rw [← bigSep_sep']
    exact bigSep_mono fun c _ => by
      show (_ : sProp 𝕄) ⊢ _
      unfold shared; iintro H; iexists K; iexact H
  iapply hs
  isplitr
  · unfold records; isplitl; · iexact HI
    iexact HRe
  · unfold dealt; rw [bigSep_sep']
    isplitl [Hat] <;> iassumption

/-- All devices' invariants at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (shared m ρ) :=
  ((bigSep_mono fun c _ => core_alloc m ρ c).trans (bigSep_fupd _ _)).trans (BI.fupd_mono (regroup m ρ))

/-! ## The launch credit -/

omit [FloatOps F] in
theorem owesFrom_apply (f : Fin 8 → CellTallies nD τ sig Unit) (g : GSem nD τ sig) : owesFrom 0 f g () = ∑ i, f i g () := by
  unfold owesFrom
  rw [show (Finset.univ.filter fun i : Fin 8 => 0 ≤ i.val) = Finset.univ from by decide, Finset.sum_apply, Finsupp.finset_sum_apply]

omit [FloatOps F] in
/-- What a family of debts of `n` each comes to at the cell `g`: `n` as often as a debt is at `g`. -/
theorem debt_total (f : Dev nD → Fin 8 → CellTallies nD τ sig Unit) (g : GSem nD τ sig) (n : ℕ) (C : Dev nD → Fin 8 → Bool)
    (h : ∀ d i, f d i g () = if C d i then n else 0) (t : ℕ) (ht : (∑ d, ∑ i, if C d i then 1 else 0) = t) :
    tallyOn g (launchCredit (Pipeline.owing fun d => owesFrom 0 (f d)) 0 g) = (tallyAt g () (t * n) : CellTallies nD τ sig Unit) := by
  unfold tallyAt; refine congrArg _ (Finsupp.ext fun u => ?_); cases u
  rw [Pipeline.launchCredit_owing, Finsupp.single_eq_same, ← ht, Finset.sum_mul]
  refine Finset.sum_congr rfl fun d _ => ?_
  rw [owesFrom_apply, Finset.sum_mul]
  refine Finset.sum_congr rfl fun i _ => ?_
  rw [h d i, ite_mul, one_mul, zero_mul]

omit [FloatOps F] in
/-- The credit of one family of transfers at the cells of array `a` of device `c`. -/
theorem creds_array (c : Dev nD) (a : Fin 4) (f : Dev nD → Fin 8 → CellTallies nD τ sig Unit)
    (h : ∀ q, q ≠ c → tallyOn (xCell a c q) (launchCredit (Pipeline.owing fun d => owesFrom 0 (f d)) 0 (xCell a c q)) = (tallyAt (xCell a c q) () N : CellTallies nD τ sig Unit)) :
    (Pipeline.launchCred (fun d => owesFrom 0 (f d)) c : sProp 𝕄) ⊢ bigSep Finset.univ (oth c fun q => cred (tallyAt (xCell a c q) () N)) := by
  unfold Pipeline.launchCred
  have hi : Function.Injective fun q : Fin 8 => (SemLoc.dma (xsem a q) : SemLoc sig) := fun q q' hq => (xsem_inj (SemLoc.dma.inj hq)).2
  refine (bigSep_subset (Finset.subset_univ (Finset.univ.map ⟨_, hi⟩))).trans ?_
  rw [bigSep_map]
  refine bigSep_mono fun q _ => ?_
  by_cases hq : q = c
  · subst hq; rw [oth_self]
    show (_ : sProp 𝕄) ⊢ _
    iintro -; iempintro
  · rw [oth_ne hq, ← h q hq]; exact BI.Entails.refl _

omit [FloatOps F] in
theorem launch_creds (c : Dev nD) : (Pipeline.launchCred O₀ c : sProp 𝕄) ⊢ creds c := by
  have e : (Pipeline.launchCred O₀ c : sProp 𝕄)
      = iprop((Pipeline.launchCred (fun d => owesFrom 0 (oGa d)) c ∗ Pipeline.launchCred (fun d => owesFrom 0 (oSc d)) c) ∗ Pipeline.launchCred (fun d => owesFrom 0 (oBar d)) c) := by
    rw [← Pipeline.launchCred_add, ← Pipeline.launchCred_add]; rfl
  have hBar : (Pipeline.launchCred (fun d => owesFrom 0 (oBar d)) c : sProp 𝕄) ⊢ cred (tallyAt (barCell c) () 7) := by
    have ht := debt_total oBar (barCell c) 1 (fun d i => decide (i ≠ d ∧ i = c)) (fun d i => by
      unfold oBar
      by_cases h : i = d
      · rw [if_pos h, if_neg (by simp [h])]; rfl
      · rw [if_neg h, tallyAt_apply]
        by_cases h' : i = c
        · rw [if_pos ⟨by rw [h'], rfl⟩, if_pos (by rw [← h'] ; simp [h])]
        · rw [if_neg (fun hh => h' (barCell_inj hh.1.symm)), if_neg (by simp [h'])]) 7 (by clear e; revert c; decide)
    unfold Pipeline.launchCred
    rw [bigSep_univ_at _ (SemLoc.reg barS), ht]
    iintro ⟨H, -⟩; iexact H
  have hSc := creds_array (F := F) c 1 oSc fun q hq => by
    have ht := debt_total oSc (xCell 1 c q) N (fun d i => decide (i ≠ 7 ∧ peer d i = c ∧ d = q)) (fun d i => by
      unfold oSc
      by_cases h : i = 7
      · rw [if_pos h, if_neg (by simp [h])]; rfl
      · rw [if_neg h, tallyAt_apply]
        by_cases h' : peer d i = c ∧ d = q
        · rw [if_pos ⟨by rw [h'.1, h'.2], rfl⟩, if_pos (by simp [h, h'.2, ← h'.1])]
        · rw [if_neg (fun hh => h' (xCell_inj hh.1.symm).2), if_neg (by simpa [h] using h')]) 1 (by clear * - hq; revert c q; decide)
    rw [one_mul] at ht; exact ht
  have hGa := creds_array (F := F) c 3 oGa fun q hq => by
    have ht := debt_total oGa (xCell 3 c q) N (fun d i => decide (i ≠ d ∧ i = c ∧ d = q)) (fun d i => by
      unfold oGa
      by_cases h : i = d
      · rw [if_pos h, if_neg (by simp [h])]; rfl
      · rw [if_neg h, tallyAt_apply]
        by_cases h' : i = c ∧ d = q
        · rw [if_pos ⟨by rw [h'.1, h'.2], rfl⟩, if_pos (by rw [h'.1, h'.2] at h; simp [h, h'.1, h'.2])]
        · rw [if_neg (fun hh => h' (xCell_inj hh.1.symm).2), if_neg (by simpa [h] using h')]) 1 (by clear * - hq; revert c q; decide)
    rw [one_mul] at ht; exact ht
  rw [e]
  unfold creds
  iintro ⟨⟨H3, H1⟩, HB⟩
  isplitl [HB]; · iapply hBar; iexact HB
  isplitl [H1]; · iapply hSc; iexact H1
  iapply hGa; iexact H3

/-! ## Entering and leaving the region -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ shared m ρ c)
      ⊢ |={Set.univ}=> iprop(start m ρ c ∗ emp) := by
  iintro ⟨-, Hlev, Hcr, -, HG⟩
  ihave Hc := (launch_creds (F := F) c) $$ Hcr
  imodintro
  unfold start
  isplitl
  · isplitl [HG]; · iexact HG
    isplitl [Hc] <;> iassumption
  · iempintro

theorem region_in (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch full
  iintro ⟨Hs, -, Hr⟩
  isplitl [Hs] <;> iassumption

theorem region_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch full
  rw [counters_eq]
  iintro ⟨⟨HB, Ho⟩, Hr⟩
  isplitl [HB]; · iexact HB
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_of c _ 0 (by fin_cases w <;> fin_cases s <;> decide) (by
      rcases t with ⟨_ | _, ht⟩
      · exact above_owedBar c 0
      · exact Above.zero 0)

/-! ## The run -/

def finalA (c : Dev nD) (w : Fin cfg0.W) : Buf (Elt F) ((cfg0.win w).arr.view.loc (c : Thread nD τ)) := (dats m ρ 0 c).arrAt w cfg0.N

/-- Every device's arrays hold what the pipeline leaves in them. -/
def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On eight devices, over any float values, from any memory with all counters at zero: every fair execution ends, with
    each device's arrays at the computed contents and every counter at zero again. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := shared m ρ) (u₀ := u₀)
    (hu₀ := by
      unfold u₀
      iintro Hu
      ihave H := (ownU_pair _ _) $$ Hu
      icases H with ⟨HP, HX⟩
      imod (deal m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := region_in m ρ) (hout := region_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.AllPairs

end
-- ==== Proof.Value.lean ====
/-
  # `Value`: what the arrays hold at the end

  The argument arrays end as they began and the result array holds what the kernel stored. In exact arithmetic row
  `64 s + i` of the result is device `s`'s sum of the eight devices' partial products, each a sum over 1024 hidden units.
-/
module

public import proofs.«01_k».proof.Proof.Launch
public import Idealize.ShloMosaic.Lib.MatmulPlain
public import Idealize.ShloMosaic.Lib.ValueIdx

@[expose] public section

noncomputable section

namespace Cert.AllPairs

open Cert.KernelIdeal Cert.KernelIdeal.Gen
open Idealize.ShloMosaic Idealize.ShloMosaic.TcCoe Idealize.ShloMosaic.ValueIdx Idealize.SL Idealize.SL.Sem

variable {F : FTy → Type} [FloatOps F]

/-! ## The windows are whole arrays -/

theorem same {n0 n1 : ℕ} (i j : (⟨2, ![n0, n1]⟩ : Shape).Idx) (h0 : (j 0).val = 0 * n0 + 1 * (i 0).val) (h1 : (j 1).val = 0 * n1 + 1 * (i 1).val) : j = i := by
  funext a; apply Fin.ext
  match a with
  | ⟨0, _⟩ => exact h0.trans (by rw [Nat.zero_mul, Nat.zero_add, Nat.one_mul]; rfl)
  | ⟨1, _⟩ => exact h1.trans (by rw [Nat.zero_mul, Nat.zero_add, Nat.one_mul]; rfl)

omit [FloatOps F] in
theorem read_x (f : (main_arg0 : Ref sig .tc).ty.Contents (Elt F)) : (win0_0.blk (0 : Fin 1)).view.read (Elt F) f = f :=
  funext fun i => congrArg f (same (n0 := 512) (n1 := 512) i _ rfl rfl)
omit [FloatOps F] in
theorem read_w1 (f : (main_arg1 : Ref sig .tc).ty.Contents (Elt F)) : (win0_1.blk (0 : Fin 1)).view.read (Elt F) f = f :=
  funext fun i => congrArg f (same (n0 := 512) (n1 := 1024) i _ rfl rfl)
omit [FloatOps F] in
theorem read_w2 (f : (main_arg2 : Ref sig .tc).ty.Contents (Elt F)) : (win0_2.blk (0 : Fin 1)).view.read (Elt F) f = f :=
  funext fun i => congrArg f (same (n0 := 1024) (n1 := 512) i _ rfl rfl)
theorem at_out (i : S512x512.Idx) : (win0_3.blk (0 : Fin 1)).view.emb i = i := same (n0 := 512) (n1 := 512) i _ rfl rfl

section Final
variable (m : (ℓ : Loc nD τ sig) → Buf (Elt F) ℓ) (ρ : Dev nD → PrngReg)

theorem flushed_out (c : Dev nD) (t : Fin cfg0.N) :
    (dats m ρ 0 c).flushed 3 t = ((cfg0.win 3).blk t).view.read (Elt F) (outAll m ρ) := by
  obtain rfl := fin_N0 t
  funext i
  show outAll m ρ _ = outAll m ρ ((win0_3.blk (0 : Fin 1)).view.emb i)
  rw [at_out]

theorem cover (i : S512x512.Idx) : ∃ t : Fin cfg0.N, (cfg0.win 3).flush t = true ∧ i ∈ ((cfg0.win 3).blk t).view.set := by
  refine ⟨t0_0, flush0_3 _, ?_⟩
  have h := (win0_3.blk (0 : Fin 1)).view.emb_mem_set i
  rw [at_out] at h; exact h

/-- The result array ends at what the kernel stored. -/
theorem finalA_out (c : Dev nD) : finalA m ρ c 3 = outAll m ρ :=
  (dats m ρ 0 c).arrAt_eq_of_cover 3 (outAll m ρ) (fun t _ => flushed_out m ρ c t) cover

/-- Every execution ends with the arguments unchanged, the result as the kernel stored it and all counters at zero. -/
theorem run_all : θ_run defs (onTc (τ := τ) (main (F := F))) ⟨m, fun _ => 0, ρ⟩ fun r =>
    (∀ c : Dev nD, r.2.mem ((c.tc : Thread nD τ).loc main_v1) = outAll m ρ
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0 :=
  (θ_run defs _ _).mono (fun _ h => ⟨fun c => ⟨(h.1 c 3).trans (finalA_out m ρ c),
      (h.1 c 0).trans ((dats m ρ 0 c).arrAt_in 0 rfl _), (h.1 c 1).trans ((dats m ρ 0 c).arrAt_in 1 rfl _),
      (h.1 c 2).trans ((dats m ρ 0 c).arrAt_in 2 rfl _)⟩, h.2⟩) (run_main m ρ)

end Final

/-! ## The values, in exact arithmetic -/

/-- One hidden unit's contribution: the activation at row `r` of hidden unit `h`, times its weight to column `j`. -/
abbrev unit {n : ℕ} (x : S512x512.Idx → EReal) (w1 : (⟨2, ![512, n]⟩ : Shape).Idx → EReal) (w2 : (⟨2, ![n, 512]⟩ : Shape).Idx → EReal)
    (r : Fin 512) (j : Fin 512) (h : Fin n) : EReal :=
  max (∑ k : Fin 512, x (ix2 r k) * w1 (ix2 k h)) 0 * w2 (ix2 h j)

/-- Row `i` of the rows `q`. -/
abbrev row (q : Fin 8) (i : Fin 64) : Fin 512 := ⟨64 * q.val + i.val, by omega⟩

theorem pay4_apply (w1 : FVec Ideal S512x1024 .bf16) (w2 : FVec Ideal S1024x512 .bf16) (x : FVec Ideal S64x512 .bf16) (i : Fin 64) (j : Fin 512) :
    k0_pay4 w1 w2 x (ix2 i j) = ∑ h : Fin 1024, max (∑ k : Fin 512, x (ix2 i k) * w1 (ix2 k h)) 0 * w2 (ix2 h j) := by
  unfold k0_pay4
  rw [shapeCast_self, shapeCast_self, truncf_apply]
  simp only [matmul]
  rw [show dot_S64x1024_S1024x512_S64x512_1_0_0_1_n_n = DotDims.plain 64 1024 512 from rfl,
    show dot_S64x512_S512x1024_S64x1024_1_0_0_1_n_n = DotDims.plain 64 512 1024 from rfl, Ideal.matmul_plain_apply,
    constant_apply, Ideal.ofBits_zero_f32, zero_add]
  refine Finset.sum_congr rfl fun h _ => congrArg (· * w2 (ix2 h j)) ?_
  rw [truncf_apply, maximumf_apply, Ideal.matmul_plain_apply, constant_apply, broadcast_apply]
  show max (Scalar.ofBits (F := Ideal) .f32 0#32 + _) (Scalar.ofBits (F := Ideal) .f32 0#32) = _
  rw [show (Scalar.ofBits (F := Ideal) .f32 0#32 : EReal) = 0 from Ideal.ofBits_zero_f32, zero_add]

theorem pay11_apply (v : FVec Ideal S8x64x512 .bf16) (i : Fin 64) (j : Fin 512) : k0_pay11 v (ix2 i j) = ∑ t : Fin 8, v (ix3 t i j) := by
  unfold k0_pay11
  dsimp only
  rw [shapeCast_self, truncf_apply]
  refine (Ideal.multiReduction_add_single _ _ _ _ _ _).trans ?_
  refine Finset.sum_congr rfl fun t _ => congrArg v ?_
  funext a
  match a with
  | ⟨0, _⟩ => rfl
  | ⟨1, _⟩ => rfl
  | ⟨2, _⟩ => rfl

section Meaning
variable (m : (ℓ : Loc nD τ sig) → Buf (Elt Ideal) ℓ) (ρ : Dev nD → PrngReg)

theorem xRows_apply (c : Dev nD) (q : Fin 8) (i : Fin 64) (k : Fin 512) :
    xRows m ρ c q (ix2 i k) = m ((c.tc : Thread nD τ).loc main_arg0) (ix2 (row q i) k) := by
  unfold xRows xstg
  rw [read_x]
  refine congrArg (m ((c.tc : Thread nD τ).loc main_arg0)) ?_
  funext a; apply Fin.ext
  match a with
  | ⟨0, _⟩ => show 64 * q.val + 1 * i.val = 64 * q.val + i.val; omega
  | ⟨1, _⟩ => show 0 + 1 * k.val = k.val; omega

theorem part_apply (c : Dev nD) (q : Fin 8) (i : Fin 64) (j : Fin 512) :
    part m ρ c q (ix2 i j) = ∑ h : Fin 1024, unit (n := 1024) (m ((c.tc : Thread nD τ).loc main_arg0)) (m ((c.tc : Thread nD τ).loc main_arg1))
      (m ((c.tc : Thread nD τ).loc main_arg2)) (row q i) j h := by
  unfold part
  rw [pay4_apply, show k0_pay1 (w1stg m ρ c) = m ((c.tc : Thread nD τ).loc main_arg1) from (shapeCast_self _ _).trans (read_w1 _),
    show k0_pay2 (w2stg m ρ c) = m ((c.tc : Thread nD τ).loc main_arg2) from (shapeCast_self _ _).trans (read_w2 _)]
  exact Finset.sum_congr rfl fun h _ => by simp only [xRows_apply]

/-- The result at row `64 s + i`: over the devices and each device's hidden units. -/
theorem out_apply (r : Fin 512) (j : Fin 512) :
    outAll m ρ (ix2 r j) = ∑ t : Dev nD, ∑ h : Fin 1024, unit (n := 1024) (m ((t.tc : Thread nD τ).loc main_arg0)) (m ((t.tc : Thread nD τ).loc main_arg1))
      (m ((t.tc : Thread nD τ).loc main_arg2)) r j h := by
  have hr : r = row ⟨r.val / 64, by omega⟩ ⟨r.val % 64, by omega⟩ := Fin.ext (by show r.val = 64 * (r.val / 64) + r.val % 64; omega)
  show summed m ρ ⟨r.val / 64, _⟩ (ix2 (n0 := 64) (n1 := 512) ⟨r.val % 64, _⟩ j) = _
  unfold summed
  rw [pay11_apply]
  refine Finset.sum_congr rfl fun t _ => ?_
  show part m ρ t ⟨r.val / 64, _⟩ (ix2 (n0 := 64) (n1 := 512) ⟨r.val % 64, _⟩ j) = _
  rw [part_apply, ← hr]

end Meaning

end Cert.AllPairs

end
-- ==== Proof.RefValue.lean ====
/-
  # `RefValue`: the reference's result, entry by entry, in exact arithmetic
-/
module

public import proofs.«01_k».proof.Proof.Value
public import proofs.«01_k».proof.Proof.Gen.ReferenceIdeal
public import Idealize.ShloMosaic.Lib.StackMember
public import Idealize.ShloMosaic.Lib.IdealHost
public import Idealize.ShloMosaic.Lib.ValueIdx

@[expose] public section

noncomputable section

namespace Cert.AllPairs

open Cert.ReferenceIdeal Cert.ReferenceIdeal.Gen
open Idealize.ShloMosaic Idealize.ShloMosaic.TcCoe Idealize.ShloMosaic.ValueIdx Idealize.SL Idealize.SL.Sem

/-! ## The reference -/

/-- The reference's result of the whole arrays, with its roundings to bfloat16. -/
abbrev refOut (x : FVec Ideal S512x512 .bf16) (w1 : FVec Ideal S512x8192 .bf16) (w2 : FVec Ideal S8192x512 .bf16) :
    FVec Ideal S512x512 .f32 :=
  extf .f32 (truncf .bf16 (Host.dotGeneral dot_S512x8192_S8192x512_S512x512_1_0_0_1_n_n none
    (maximumf (truncf .bf16 (Host.dotGeneral dot_S512x512_S512x8192_S512x8192_1_0_0_1_n_n none x w1) bitsLt_bf16_f32)
      (broadcastInDim S512x8192 ![] bcast_S_S512x8192 (constant S_ .bf16 0x0000#16))) w2) bitsLt_bf16_f32) bitsLt_bf16_f32

/-- An entry of it: a sum over all the hidden units. -/
theorem refOut_apply (x : FVec Ideal S512x512 .bf16) (w1 : FVec Ideal S512x8192 .bf16) (w2 : FVec Ideal S8192x512 .bf16)
    (r j : Fin 512) : refOut x w1 w2 (ix2 r j) = ∑ h : Fin 8192, unit (n := 8192) x w1 w2 r j h := by
  unfold refOut
  rw [show dot_S512x8192_S8192x512_S512x512_1_0_0_1_n_n = DotDims.plain 512 8192 512 from rfl,
    show dot_S512x512_S512x8192_S512x8192_1_0_0_1_n_n = DotDims.plain 512 512 8192 from rfl, extf_apply, truncf_apply,
    StackMember.dotGeneral_plain_apply]
  refine Finset.sum_congr rfl fun h _ => ?_
  rw [maximumf_apply, truncf_apply, StackMember.dotGeneral_plain_apply]
  show max _ (Scalar.ofBits (F := Ideal) .bf16 0#16) * _ = _
  rw [show (Scalar.ofBits (F := Ideal) .bf16 0#16 : EReal) = 0 from Ideal.ofBits_zero_bf16]

end Cert.AllPairs

end
-- ==== Proof.Agree.lean ====
/-
  # `Agree`: the kernel's result is the reference's

  The reference sums over the 8192 hidden units at once, the kernel over each device's 1024 and then over the devices.
-/
module

public import proofs.«01_k».proof.Proof.RefValue

@[expose] public section

noncomputable section

namespace Cert.AllPairs

open Cert.KernelIdeal Cert.KernelIdeal.Gen
open Idealize.ShloMosaic Idealize.ShloMosaic.TcCoe Idealize.ShloMosaic.ValueIdx Idealize.SL Idealize.SL.Sem

/-- A sum over all hidden units, device by device. -/
theorem sum_units (f : Fin 8192 → EReal) : ∑ h, f h = ∑ t : Fin 8, ∑ h : Fin 1024, f ⟨t.val * 1024 + h.val, by omega⟩ := by
  rw [← Fintype.sum_prod_type', ← Equiv.sum_comp (finProdFinEquiv (m := 8) (n := 1024)) f]
  refine Finset.sum_congr rfl fun x _ => congrArg f (Fin.ext ?_)
  show x.2.val + 1024 * x.1.val = x.1.val * 1024 + x.2.val
  omega

/-- With every device holding `x` and its blocks of the weights, the kernel's result is the reference's. -/
theorem out_eq_ref (m : (ℓ : Loc nD τ sig) → Buf (Elt Ideal) ℓ) (ρ : Dev nD → PrngReg)
    (x : FVec Ideal S512x512 .bf16) (w1 : FVec Ideal ReferenceIdeal.S512x8192 .bf16) (w2 : FVec Ideal ReferenceIdeal.S8192x512 .bf16)
    (h : ∀ c : Dev nD, m ((c.tc : Thread nD τ).loc main_arg0) = x
      ∧ m ((c.tc : Thread nD τ).loc main_arg1) = Layout.block ⟨2, ![512, 1024]⟩ ⟨2, ![512, 8192]⟩ 1 8 c w1
      ∧ m ((c.tc : Thread nD τ).loc main_arg2) = Layout.block ⟨2, ![1024, 512]⟩ ⟨2, ![8192, 512]⟩ 0 8 c w2) :
    outAll m ρ = refOut x w1 w2 := by
  funext i
  obtain ⟨r, j, rfl⟩ : ∃ r j, i = ix2 (n0 := 512) (n1 := 512) r j := ⟨i 0, i 1, eq_ix2 i⟩
  refine (out_apply m ρ r j).trans (Eq.trans ?_ ((refOut_apply x w1 w2 r j).trans (sum_units _)).symm)
  show @Eq EReal _ _
  refine Finset.sum_congr rfl fun t _ => Finset.sum_congr rfl fun u _ => ?_
  rw [(h t).1, (h t).2.1, (h t).2.2]
  unfold unit
  have ht : t.val < 8 := t.isLt
  have e1 (k : Fin 512) : Layout.block ⟨2, ![512, 1024]⟩ ⟨2, ![512, 8192]⟩ 1 8 t w1 (by decide) (ix2 k u) = w1 (ix2 k ⟨t.val * 1024 + u.val, by omega⟩) := by
    rw [Layout.block_apply]
    exact congrArg w1 (funext fun a => match a with | ⟨0, _⟩ => rfl | ⟨1, _⟩ => rfl)
  have e2 : Layout.block ⟨2, ![1024, 512]⟩ ⟨2, ![8192, 512]⟩ 0 8 t w2 (by decide) (ix2 u j) = w2 (ix2 ⟨t.val * 1024 + u.val, by omega⟩ j) := by
    rw [Layout.block_apply]
    exact congrArg w2 (funext fun a => match a with | ⟨0, _⟩ => rfl | ⟨1, _⟩ => rfl)
  rw [e2]
  simp only [e1]

end Cert.AllPairs

end
-- ==== Proof.lean ====
/-
  # The claims

  The kernel's run over any float values (`Cert.AllPairs.run_all`) gives both its frames, and with the reference's run and
  the agreement of the two results in exact arithmetic (`Cert.AllPairs.out_eq_ref`) the algebraic claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem

/-- The idealized kernel's frame, at any float values. -/
theorem frame_any {F : FTy → Type} [FloatOps F] (m : (ℓ : Loc KernelIdeal.nD KernelIdeal.τ KernelIdeal.sig) → Buf (Elt F) ℓ)
    (ρ : Dev KernelIdeal.nD → PrngReg) :
    θ_run KernelIdeal.defs (onTc (τ := KernelIdeal.τ) (KernelIdeal.main (F := F))) ⟨m, fun _ => 0, ρ⟩ (fun r =>
      (∀ c : Dev KernelIdeal.nD,
        r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1)
        ∧ r.2.mem ((c.tc : Thread KernelIdeal.nD KernelIdeal.τ).loc KernelIdeal.main_arg2) = m ((c.tc : Thread KernelIdeal.nD KernelIdeal.τ).loc KernelIdeal.main_arg2))
      ∧ r.2.sem = fun _ => 0) :=
  (θ_run KernelIdeal.defs _ _).mono (fun _ h => ⟨fun c => (h.1 c).2, h.2⟩) (AllPairs.run_all m ρ)

/-- The two printings of the kernel are one text, so their tables of bodies agree label by label. -/
theorem bodies_same : Kernel.defs₀ (F := Bits) = KernelIdeal.defs₀ :=
  congrArg Defs.onTc (funext fun ℓ => match ℓ with
    | 0 => funext fun _ => rfl
    | ⟨_ + 1, h⟩ => absurd h (Nat.not_lt.2 (Nat.le_add_left _ _)))

/-- The kernel ends without fault, its arguments unchanged and its counters at zero. -/
theorem frame_kernel : Cert.quiescent_Kernel := fun m ρ _ => by
  have h := frame_any (F := Bits) m ρ
  unfold KernelIdeal.defs at h
  rw [← bodies_same] at h
  exact h

/-- The same of the idealized kernel. -/
theorem frame_kernelIdeal : Cert.quiescent_KernelIdeal := fun m ρ _ => frame_any (F := Ideal) m ρ

/-- The same of the reference, which has no counters. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- On every device the idealized kernel's result is the idealized reference's of the whole arrays. -/
theorem agrees : Cert.algebraic_KernelIdeal_ReferenceIdeal := fun m ρ m' ρ' _ hm =>
  ⟨Cert.AllPairs.outAll m ρ, (θ_run Cert.KernelIdeal.defs _ _).mono (fun _ h => h.1) (Cert.AllPairs.run_all (F := Ideal) m ρ),
    (θ_run Cert.ReferenceIdeal.defs _ _).mono (fun _ h => ⟨(h 0).1.trans (Cert.AllPairs.out_eq_ref m ρ _ _ _ hm).symm, (h 0).2⟩)
      (Cert.ReferenceIdeal.Value.run (F := Ideal) m' ρ')⟩

/-- The five claims together. -/
theorem claim : Cert.Claim := ⟨Cert.Kernel.Gen.facts, Cert.KernelIdeal.Gen.facts, Cert.ReferenceIdeal.Gen.facts,
  frame_kernel, frame_kernelIdeal, frame_reference, trivial, agrees⟩

end Cert.Proof

end
